-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "eps4" .bf16 0x39D2#16 ((13743895 / 34359738368 : ℝ) : EReal)
  ∧ IdealRules.named_const.Statement Cert.KernelIdeal.κ "four_ninths" .bf16 0x3EE4#16 ((4 / 9 : ℝ) : EReal)

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S8x256x160x160 : Shape := ⟨4, ![8, 256, 160, 160]⟩
abbrev S64x256x1x1 : Shape := ⟨4, ![64, 256, 1, 1]⟩
abbrev S64 : Shape := ⟨1, ![64]⟩
abbrev S16x64x1x1 : Shape := ⟨4, ![16, 64, 1, 1]⟩
abbrev S16 : Shape := ⟨1, ![16]⟩
abbrev S64x16x1x1 : Shape := ⟨4, ![64, 16, 1, 1]⟩
abbrev S1x128x1x1 : Shape := ⟨4, ![1, 128, 1, 1]⟩
abbrev S_ : Shape := ⟨0, ![]⟩

class Facts : Prop where
  bcast_S_S8x256x160x160 : S_.BroadcastsInDim S8x256x160x160 (![] : Fin 0 → Fin S8x256x160x160.rank)
  reducesTo_S8x256x160x160_S_d0_1_2_3 : S8x256x160x160.ReducesTo [0, 1, 2, 3] S_
  h_S_ : 0 < S_.numel
  bcast_S_S64x256x1x1 : S_.BroadcastsInDim S64x256x1x1 (![] : Fin 0 → Fin S64x256x1x1.rank)
  reducesTo_S64x256x1x1_S_d0_1_2_3 : S64x256x1x1.ReducesTo [0, 1, 2, 3] S_
  bcast_S_S64 : S_.BroadcastsInDim S64 (![] : Fin 0 → Fin S64.rank)
  reducesTo_S64_S_d0 : S64.ReducesTo [0] S_
  bcast_S_S1x128x1x1 : S_.BroadcastsInDim S1x128x1x1 (![] : Fin 0 → Fin S1x128x1x1.rank)
  reducesTo_S1x128x1x1_S_d0_1_2_3 : S1x128x1x1.ReducesTo [0, 1, 2, 3] S_

variable [Facts]

def fn_part1 {F : FTy → Type} [FloatOps F] (main_v13 : IVec S_ 1) (main_v16 : IVec S1x128x1x1 1) : IVec S_ 1 :=
  let main_c_5 : IVec S_ 1 := constantI S_ 1 1#1
  let main_v17 : IVec S_ 1 := (fun x v => Host.reduce IntOp.andi x v reducesTo_S1x128x1x1_S_d0_1_2_3 h_S_) main_v16 main_c_5
  let main_v18 : IVec S_ 1 := andi main_v13 main_v17
  main_v18

def fn {F : FTy → Type} [FloatOps F] (main_arg0 : FVec F S8x256x160x160 .f32) (main_arg1 : FVec F S64x256x1x1 .f32) (main_arg2 : FVec F S64 .f32) (main_arg3 : FVec F S64 .f32) (main_arg4 : FVec F S16x64x1x1 .f32) (main_arg5 : FVec F S16 .f32) (main_arg6 : FVec F S64x16x1x1 .f32) (main_arg7 : FVec F S64 .f32) (main_arg8 : FVec F S1x128x1x1 .f32) : IVec S_ 1 :=
  let main_v0 : FVec F S8x256x160x160 .f32 := Host.absf main_arg0
  let main_cst : FVec F S_ .f32 := constant S_ .f32 0x7F800000#32
  let main_v1 : FVec F S8x256x160x160 .f32 := broadcastInDim S8x256x160x160 ![] bcast_S_S8x256x160x160 main_cst
  let main_v2 : IVec S8x256x160x160 1 := cmpf .olt main_v0 main_v1
  let main_c : IVec S_ 1 := constantI S_ 1 1#1
  let main_v3 : IVec S_ 1 := (fun x v => Host.reduce IntOp.andi x v reducesTo_S8x256x160x160_S_d0_1_2_3 h_S_) main_v2 main_c
  let main_v4 : FVec F S64x256x1x1 .f32 := Host.absf main_arg1
  let main_cst_0 : FVec F S_ .f32 := constant S_ .f32 0x7F800000#32
  let main_v5 : FVec F S64x256x1x1 .f32 := broadcastInDim S64x256x1x1 ![] bcast_S_S64x256x1x1 main_cst_0
  let main_v6 : IVec S64x256x1x1 1 := cmpf .olt main_v4 main_v5
  let main_c_1 : IVec S_ 1 := constantI S_ 1 1#1
  let main_v7 : IVec S_ 1 := (fun x v => Host.reduce IntOp.andi x v reducesTo_S64x256x1x1_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x128x1x1 .f32 := Host.absf main_arg8
  let main_cst_4 : FVec F S_ .f32 := constant S_ .f32 0x7F800000#32
  let main_v15 : FVec F S1x128x1x1 .f32 := broadcastInDim S1x128x1x1 ![] bcast_S_S1x128x1x1 main_cst_4
  let main_v16 : IVec S1x128x1x1 1 := cmpf .olt main_v14 main_v15
  fn_part1 (F := F) main_v13 main_v16
-- ==== Kernel.lean ====
abbrev S8x256x160x160 : Shape := ⟨4, ![8, 256, 160, 160]⟩
abbrev S64x256x1x1 : Shape := ⟨4, ![64, 256, 1, 1]⟩
abbrev S64 : Shape := ⟨1, ![64]⟩
abbrev S16x64x1x1 : Shape := ⟨4, ![16, 64, 1, 1]⟩
abbrev S16 : Shape := ⟨1, ![16]⟩
abbrev S64x16x1x1 : Shape := ⟨4, ![64, 16, 1, 1]⟩
abbrev S1x128x1x1 : Shape := ⟨4, ![1, 128, 1, 1]⟩
abbrev S8x256x25600 : Shape := ⟨3, ![8, 256, 25600]⟩
abbrev S64x256 : Shape := ⟨2, ![64, 256]⟩
abbrev S16x64 : Shape := ⟨2, ![16, 64]⟩
abbrev S64x16 : Shape := ⟨2, ![64, 16]⟩
abbrev S128 : Shape := ⟨1, ![128]⟩
abbrev S_ : Shape := ⟨0, ![]⟩
abbrev S64x1 : Shape := ⟨2, ![64, 1]⟩
abbrev S64x6 : Shape := ⟨2, ![64, 6]⟩
abbrev S1x256x6400 : Shape := ⟨3, ![1, 256, 6400]⟩
abbrev S1x256x40x160 : Shape := ⟨4, ![1, 256, 40, 160]⟩
abbrev S64x26112 : Shape := ⟨2, ![64, 26112]⟩
abbrev S64x6720 : Shape := ⟨2, ![64, 6720]⟩
abbrev S256x6400 : Shape := ⟨2, ![256, 6400]⟩
abbrev S64x6400 : Shape := ⟨2, ![64, 6400]⟩
abbrev S8x64 : Shape := ⟨2, ![8, 64]⟩
abbrev S64x8 : Shape := ⟨2, ![64, 8]⟩
abbrev S8x1 : Shape := ⟨2, ![8, 1]⟩
abbrev S64x25600 : Shape := ⟨2, ![64, 25600]⟩
abbrev S16x1 : Shape := ⟨2, ![16, 1]⟩
abbrev S1x6400 : Shape := ⟨2, ![1, 6400]⟩
abbrev S64x6399 : Shape := ⟨2, ![64, 6399]⟩
abbrev S6400 : Shape := ⟨1, ![6400]⟩
abbrev S256x40x160 : Shape := ⟨3, ![256, 40, 160]⟩

abbrev nBuf : Space → Nat
  | .hbm => 27
  | .vmem => 13
  | .smem => 0
  | _ => 0

abbrev bufTy : (tb : Table) → Fin (tcTables nBuf tb) → BufTy
  | .hbm, ⟨0, _⟩ => ⟨S8x256x160x160, .f32⟩
  | .hbm, ⟨1, _⟩ => ⟨S64x256x1x1, .f32⟩
  | .hbm, ⟨2, _⟩ => ⟨S64, .f32⟩
  | .hbm, ⟨3, _⟩ => ⟨S64, .f32⟩
  | .hbm, ⟨4, _⟩ => ⟨S16x64x1x1, .f32⟩
  | .hbm, ⟨5, _⟩ => ⟨S16, .f32⟩
  | .hbm, ⟨6, _⟩ => ⟨S64x16x1x1, .f32⟩
  | .hbm, ⟨7, _⟩ => ⟨S64, .f32⟩
  | .hbm, ⟨8, _⟩ => ⟨S1x128x1x1, .f32⟩
  | .hbm, ⟨9, _⟩ => ⟨S8x256x25600, .f32⟩
  | .hbm, ⟨10, _⟩ => ⟨S64x256, .f32⟩
  | .hbm, ⟨11, _⟩ => ⟨S16x64, .f32⟩
  | .hbm, ⟨12, _⟩ => ⟨S64x16, .f32⟩
  | .hbm, ⟨13, _⟩ => ⟨S128, .f32⟩
  | .hbm, ⟨14, _⟩ => ⟨S64, .f32⟩
  | .hbm, ⟨15, _⟩ => ⟨S64, .f32⟩
  | .hbm, ⟨16, _⟩ => ⟨S_, .i32⟩
  | .hbm, ⟨17, _⟩ => ⟨S_, .f32⟩
  | .hbm, ⟨18, _⟩ => ⟨S64, .f32⟩
  | .hbm, ⟨19, _⟩ => ⟨S64x1, .f32⟩
  | .hbm, ⟨20, _⟩ => ⟨S64x1, .f32⟩
  | .hbm, ⟨21, _⟩ => ⟨S64x1, .f32⟩
  | .hbm, ⟨22, _⟩ => ⟨S64x1, .f32⟩
  | .hbm, ⟨23, _⟩ => ⟨S64x1, .f32⟩
  | .hbm, ⟨24, _⟩ => ⟨S64x1, .f32⟩
  | .hbm, ⟨25, _⟩ => ⟨S64x6, .f32⟩
  | .hbm, ⟨26, _⟩ => ⟨S8x256x160x160, .f32⟩
  | .local _ .vmem, ⟨0, _⟩ => ⟨S1x256x6400, .f32⟩
  | .local _ .vmem, ⟨1, _⟩ => ⟨S1x256x6400, .f32⟩
  | .local _ .vmem, ⟨2, _⟩ => ⟨S64x256, .f32⟩
  | .local _ .vmem, ⟨3, _⟩ => ⟨S16x64, .f32⟩
  | .local _ .vmem, ⟨4, _⟩ => ⟨S64x16, .f32⟩
  | .local _ .vmem, ⟨5, _⟩ => ⟨S64x6, .f32⟩
  | .local _ .vmem, ⟨6, _⟩ => ⟨S1x256x40x160, .f32⟩
  | .local _ .vmem, ⟨7, _⟩ => ⟨S1x256x40x160, .f32⟩
  | .local _ .vmem, ⟨8, _⟩ => ⟨S64x26112, .bf16⟩
  | .local _ .vmem, ⟨9, _⟩ => ⟨S64x6720, .bf16⟩
  | .local _ .vmem, ⟨10, _⟩ => ⟨S64x1, .f32⟩
  | .local _ .vmem, ⟨11, _⟩ => ⟨S64x1, .f32⟩
  | .local _ .vmem, ⟨12, _⟩ => ⟨S64x1, .f32⟩
  | _, _ => ⟨S8x256x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def k0_cond9 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.addi arg1 c4_i32_0
  let c1_i32 : BitVec 32 := 1#32
  let v2 : BitVec 32 := Scalar.subi v1 c1_i32
  let c4_i32_1 : BitVec 32 := 4#32
  let v3 : BitVec 32 := Scalar.remsi v2 c4_i32_1
  let v4 : BitVec 32 := Scalar.select v0 arg1 v3
  let c0_i32 : BitVec 32 := 0#32
  let c0_i32_2 : BitVec 32 := 0#32
  ![arg0.toNat, c0_i32.toNat, v4.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 1 := Scalar.cmpi .slt arg1 c5_i32
  let c4_i32 : BitVec 32 := 4#32
  let v1 : BitVec 32 := Scalar.addi arg1 c4_i32
  let c1_i32 : BitVec 32 := 1#32
  let v2 : BitVec 32 := Scalar.subi v1 c1_i32
  let c4_i32_0 : BitVec 32 := 4#32
  let v3 : BitVec 32 := Scalar.remsi v2 c4_i32_0
  let c3_i32 : BitVec 32 := 3#32
  let v4 : BitVec 32 := Scalar.select v0 c3_i32 v3
  let c0_i32 : BitVec 32 := 0#32
  let c0_i32_1 : BitVec 32 := 0#32
  let c0_i32_2 : BitVec 32 := 0#32
  ![arg0.toNat, c0_i32.toNat, v4.toNat, c0_i32_1.toNat]

abbrev stage0_0 : Fin 2 → Memref sig .tc .vmem S1x256x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x40x160 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "eps4" => some ((13743895 / 34359738368 : ℝ) : EReal)
  | "four_ninths" => some ((4 / 9 : ℝ) : EReal)
  | _ => none
-- ==== ReferenceIdeal.lean ====
abbrev S8x256x160x160 : Shape := ⟨4, ![8, 256, 160, 160]⟩
abbrev S64x256x1x1 : Shape := ⟨4, ![64, 256, 1, 1]⟩
abbrev S64 : Shape := ⟨1, ![64]⟩
abbrev S16x64x1x1 : Shape := ⟨4, ![16, 64, 1, 1]⟩
abbrev S16 : Shape := ⟨1, ![16]⟩
abbrev S64x16x1x1 : Shape := ⟨4, ![64, 16, 1, 1]⟩
abbrev S1x128x1x1 : Shape := ⟨4, ![1, 128, 1, 1]⟩
abbrev S64x256 : Shape := ⟨2, ![64, 256]⟩
abbrev S64x8x160x160 : Shape := ⟨4, ![64, 8, 160, 160]⟩
abbrev S8x64x160x160 : Shape := ⟨4, ![8, 64, 160, 160]⟩
abbrev S8x8x8x160x160 : Shape := ⟨5, ![8, 8, 8, 160, 160]⟩
abbrev S_ : Shape := ⟨0, ![]⟩
abbrev S8x8 : Shape := ⟨2, ![8, 8]⟩
abbrev S8x8x1x1x1 : Shape := ⟨5, ![8, 8, 1, 1, 1]⟩
abbrev S1x64x1x1 : Shape := ⟨4, ![1, 64, 1, 1]⟩
abbrev S8x64x162x162 : Shape := ⟨4, ![8, 64, 162, 162]⟩
abbrev S8x64 : Shape := ⟨2, ![8, 64]⟩
abbrev S16x64 : Shape := ⟨2, ![16, 64]⟩
abbrev S64x16 : Shape := ⟨2, ![64, 16]⟩
abbrev S8x16 : Shape := ⟨2, ![8, 16]⟩
abbrev S1x16 : Shape := ⟨2, ![1, 16]⟩
abbrev S1x64 : Shape := ⟨2, ![1, 64]⟩
abbrev S8x64x1x1 : Shape := ⟨4, ![8, 64, 1, 1]⟩
abbrev S128 : Shape := ⟨1, ![128]⟩
abbrev S8x160x160 : Shape := ⟨3, ![8, 160, 160]⟩
abbrev S8x1x160x160 : Shape := ⟨4, ![8, 1, 160, 160]⟩

abbrev nBuf : Space → Nat
  | .hbm => 284
  | .vmem => 0
  | .smem => 0
  | _ => 0

abbrev hbmTy0_0 (i : Nat) : BufTy := match i % 128 with
  | 0 => ⟨S8x256x160x160, .f32⟩
  | 1 => ⟨S64x256x1x1, .f32⟩
  | 2 => ⟨S64, .f32⟩
  | 3 => ⟨S64, .f32⟩
  | 4 => ⟨S16x64x1x1, .f32⟩
  | 5 => ⟨S16, .f32⟩
  | 6 => ⟨S64x16x1x1, .f32⟩
  | 7 => ⟨S64, .f32⟩
  | 8 => ⟨S1x128x1x1, .f32⟩
  | 9 => ⟨S64x256, .f32⟩
  | 10 => ⟨S64x8x160x160, .f32⟩
  | 11 => ⟨S8x64x160x160, .f32⟩
  | 12 => ⟨S8x8x8x160x160, .f32⟩
  | 13 => ⟨S_, .f32⟩
  | 14 => ⟨S8x8, .f32⟩
  | 15 => ⟨S8x8x1x1x1, .f32⟩
  | 16 => ⟨S_, .f32⟩
  | 17 => ⟨S8x8x1x1x1, .f32⟩
  | 18 => ⟨S8x8x1x1x1, .f32⟩
  | 19 => ⟨S_, .i32⟩
  | 20 => ⟨S_, .f32⟩
  | 21 => ⟨S8x8, .f32⟩
  | 22 => ⟨S8x8x1x1x1, .f32⟩
  | 23 => ⟨S_, .f32⟩
  | 24 => ⟨S8x8x1x1x1, .f32⟩
  | 25 => ⟨S8x8x1x1x1, .f32⟩
  | 26 => ⟨S8x8x8x160x160, .f32⟩
  | 27 => ⟨S8x8x8x160x160, .f32⟩
  | 28 => ⟨S8x8x8x160x160, .f32⟩
  | 29 => ⟨S_, .f32⟩
  | 30 => ⟨S_, .f32⟩
  | 31 => ⟨S_, .f32⟩
  | 32 => ⟨S_, .f32⟩
  | 33 => ⟨S8x8, .f32⟩
  | 34 => ⟨S8x8x1x1x1, .f32⟩
  | 35 => ⟨S8x8x1x1x1, .f32⟩
  | 36 => ⟨S8x8x1x1x1, .f32⟩
  | 37 => ⟨S_, .f32⟩
  | 38 => ⟨S_, .i1⟩
  | 39 => ⟨S_, .f32⟩
  | 40 => ⟨S_, .f32⟩
  | 41 => ⟨S8x8x1x1x1, .f32⟩
  | 42 => ⟨S8x8x1x1x1, .f32⟩
  | 43 => ⟨S8x8x8x160x160, .f32⟩
  | 44 => ⟨S8x8x8x160x160, .f32⟩
  | 45 => ⟨S_, .f32⟩
  | 46 => ⟨S8x8x1x1x1, .f32⟩
  | 47 => ⟨S8x8x1x1x1, .f32⟩
  | 48 => ⟨S8x8x1x1x1, .f32⟩
  | 49 => ⟨S8x8x8x160x160, .f32⟩
  | 50 => ⟨S8x8x8x160x160, .f32⟩
  | 51 => ⟨S8x64x160x160, .f32⟩
  | 52 => ⟨S1x64x1x1, .f32⟩
  | 53 => ⟨S8x64x160x160, .f32⟩
  | 54 => ⟨S8x64x160x160, .f32⟩
  | 55 => ⟨S1x64x1x1, .f32⟩
  | 56 => ⟨S8x64x160x160, .f32⟩
  | 57 => ⟨S8x64x160x160, .f32⟩
  | 58 => ⟨S_, .i32⟩
  | 59 => ⟨S_, .f32⟩
  | 60 => ⟨S8x64x162x162, .f32⟩
  | 61 => ⟨S8x64x160x160, .f32⟩
  | 62 => ⟨S_, .f32⟩
  | 63 => ⟨S8x64x160x160, .f32⟩
  | 64 => ⟨S8x64x160x160, .f32⟩
  | 65 => ⟨S8x64x160x160, .f32⟩
  | 66 => ⟨S_, .f32⟩
  | 67 => ⟨S8x64x160x160, .f32⟩
  | 68 => ⟨S8x64x160x160, .f32⟩
  | 69 => ⟨S8x64x160x160, .f32⟩
  | 70 => ⟨S_, .f32⟩
  | 71 => ⟨S8x64x160x160, .f32⟩
  | 72 => ⟨S8x64x160x160, .f32⟩
  | 73 => ⟨S8x64x160x160, .f32⟩
  | 74 => ⟨S_, .f32⟩
  | 75 => ⟨S8x64x160x160, .f32⟩
  | 76 => ⟨S8x64x160x160, .f32⟩
  | 77 => ⟨S8x64x160x160, .f32⟩
  | 78 => ⟨S_, .f32⟩
  | 79 => ⟨S8x64x160x160, .f32⟩
  | 80 => ⟨S8x64x160x160, .f32⟩
  | 81 => ⟨S8x64x160x160, .f32⟩
  | 82 => ⟨S_, .f32⟩
  | 83 => ⟨S8x64x160x160, .f32⟩
  | 84 => ⟨S8x64x160x160, .f32⟩
  | 85 => ⟨S8x64x160x160, .f32⟩
  | 86 => ⟨S_, .f32⟩
  | 87 => ⟨S8x64x160x160, .f32⟩
  | 88 => ⟨S8x64x160x160, .f32⟩
  | 89 => ⟨S8x64x160x160, .f32⟩
  | 90 => ⟨S_, .f32⟩
  | 91 => ⟨S8x64x160x160, .f32⟩
  | 92 => ⟨S8x64x160x160, .f32⟩
  | 93 => ⟨S8x64x160x160, .f32⟩
  | 94 => ⟨S_, .f32⟩
  | 95 => ⟨S8x64x160x160, .f32⟩
  | 96 => ⟨S8x64x160x160, .f32⟩
  | 97 => ⟨S8x64x160x160, .f32⟩
  | 98 => ⟨S8x64x160x160, .f32⟩
  | 99 => ⟨S8x64x160x160, .f32⟩
  | 100 => ⟨S8x64x160x160, .f32⟩
  | 101 => ⟨S8x64x160x160, .f32⟩
  | 102 => ⟨S8x64x160x160, .f32⟩
  | 103 => ⟨S8x64x160x160, .f32⟩
  | 104 => ⟨S8x64x160x160, .f32⟩
  | 105 => ⟨S_, .f32⟩
  | 106 => ⟨S8x64x160x160, .f32⟩
  | 107 => ⟨S8x64x160x160, .f32⟩
  | 108 => ⟨S_, .i32⟩
  | 109 => ⟨S_, .f32⟩
  | 110 => ⟨S8x64x162x162, .f32⟩
  | 111 => ⟨S8x64x160x160, .f32⟩
  | 112 => ⟨S_, .f32⟩
  | 113 => ⟨S8x64x160x160, .f32⟩
  | 114 => ⟨S8x64x160x160, .f32⟩
  | 115 => ⟨S8x64x160x160, .f32⟩
  | 116 => ⟨S_, .f32⟩
  | 117 => ⟨S8x64x160x160, .f32⟩
  | 118 => ⟨S8x64x160x160, .f32⟩
  | 119 => ⟨S8x64x160x160, .f32⟩
  | 120 => ⟨S_, .f32⟩
  | 121 => ⟨S8x64x160x160, .f32⟩
  | 122 => ⟨S8x64x160x160, .f32⟩
  | 123 => ⟨S8x64x160x160, .f32⟩
  | 124 => ⟨S_, .f32⟩
  | 125 => ⟨S8x64x160x160, .f32⟩
  | 126 => ⟨S8x64x160x160, .f32⟩
  | 127 => ⟨S8x64x160x160, .f32⟩
  | _ => ⟨S8x256x160x160, .f32⟩

abbrev hbmTy0_1 (i : Nat) : BufTy := match i % 128 with
  | 0 => ⟨S_, .f32⟩
  | 1 => ⟨S8x64x160x160, .f32⟩
  | 2 => ⟨S8x64x160x160, .f32⟩
  | 3 => ⟨S8x64x160x160, .f32⟩
  | 4 => ⟨S_, .f32⟩
  | 5 => ⟨S8x64x160x160, .f32⟩
  | 6 => ⟨S8x64x160x160, .f32⟩
  | 7 => ⟨S8x64x160x160, .f32⟩
  | 8 => ⟨S_, .f32⟩
  | 9 => ⟨S8x64x160x160, .f32⟩
  | 10 => ⟨S8x64x160x160, .f32⟩
  | 11 => ⟨S8x64x160x160, .f32⟩
  | 12 => ⟨S_, .f32⟩
  | 13 => ⟨S8x64x160x160, .f32⟩
  | 14 => ⟨S8x64x160x160, .f32⟩
  | 15 => ⟨S8x64x160x160, .f32⟩
  | 16 => ⟨S_, .f32⟩
  | 17 => ⟨S8x64x160x160, .f32⟩
  | 18 => ⟨S8x64x160x160, .f32⟩
  | 19 => ⟨S8x64x160x160, .f32⟩
  | 20 => ⟨S8x64x160x160, .f32⟩
  | 21 => ⟨S8x64x160x160, .f32⟩
  | 22 => ⟨S8x64x160x160, .f32⟩
  | 23 => ⟨S8x64x160x160, .f32⟩
  | 24 => ⟨S8x64x160x160, .f32⟩
  | 25 => ⟨S8x64x160x160, .f32⟩
  | 26 => ⟨S8x64x160x160, .f32⟩
  | 27 => ⟨S_, .i32⟩
  | 28 => ⟨S_, .f32⟩
  | 29 => ⟨S8x64x162x162, .f32⟩
  | 30 => ⟨S8x64x160x160, .f32⟩
  | 31 => ⟨S_, .f32⟩
  | 32 => ⟨S8x64x160x160, .f32⟩
  | 33 => ⟨S8x64x160x160, .f32⟩
  | 34 => ⟨S8x64x160x160, .f32⟩
  | 35 => ⟨S_, .f32⟩
  | 36 => ⟨S8x64x160x160, .f32⟩
  | 37 => ⟨S8x64x160x160, .f32⟩
  | 38 => ⟨S8x64x160x160, .f32⟩
  | 39 => ⟨S_, .f32⟩
  | 40 => ⟨S8x64x160x160, .f32⟩
  | 41 => ⟨S8x64x160x160, .f32⟩
  | 42 => ⟨S8x64x160x160, .f32⟩
  | 43 => ⟨S_, .f32⟩
  | 44 => ⟨S8x64x160x160, .f32⟩
  | 45 => ⟨S8x64x160x160, .f32⟩
  | 46 => ⟨S8x64x160x160, .f32⟩
  | 47 => ⟨S_, .f32⟩
  | 48 => ⟨S8x64x160x160, .f32⟩
  | 49 => ⟨S8x64x160x160, .f32⟩
  | 50 => ⟨S8x64x160x160, .f32⟩
  | 51 => ⟨S_, .f32⟩
  | 52 => ⟨S8x64x160x160, .f32⟩
  | 53 => ⟨S8x64x160x160, .f32⟩
  | 54 => ⟨S8x64x160x160, .f32⟩
  | 55 => ⟨S_, .f32⟩
  | 56 => ⟨S8x64x160x160, .f32⟩
  | 57 => ⟨S8x64x160x160, .f32⟩
  | 58 => ⟨S8x64x160x160, .f32⟩
  | 59 => ⟨S_, .f32⟩
  | 60 => ⟨S8x64x160x160, .f32⟩
  | 61 => ⟨S8x64x160x160, .f32⟩
  | 62 => ⟨S8x64x160x160, .f32⟩
  | 63 => ⟨S_, .f32⟩
  | 64 => ⟨S8x64x160x160, .f32⟩
  | 65 => ⟨S8x64x160x160, .f32⟩
  | 66 => ⟨S8x64x160x160, .f32⟩
  | 67 => ⟨S8x64x160x160, .f32⟩
  | 68 => ⟨S8x64x160x160, .f32⟩
  | 69 => ⟨S8x64x160x160, .f32⟩
  | 70 => ⟨S8x64x160x160, .f32⟩
  | 71 => ⟨S8x64x160x160, .f32⟩
  | 72 => ⟨S8x64x160x160, .f32⟩
  | 73 => ⟨S8x64x160x160, .f32⟩
  | 74 => ⟨S8x64x160x160, .f32⟩
  | 75 => ⟨S8x64x160x160, .f32⟩
  | 76 => ⟨S8x64x160x160, .f32⟩
  | 77 => ⟨S8x64x160x160, .f32⟩
  | 78 => ⟨S8x64x160x160, .f32⟩
  | 79 => ⟨S_, .f32⟩
  | 80 => ⟨S8x64x160x160, .f32⟩
  | 81 => ⟨S8x64x160x160, .f32⟩
  | 82 => ⟨S8x64x160x160, .f32⟩
  | 83 => ⟨S_, .f32⟩
  | 84 => ⟨S_, .f32⟩
  | 85 => ⟨S_, .f32⟩
  | 86 => ⟨S8x64x160x160, .f32⟩
  | 87 => ⟨S8x64x160x160, .f32⟩
  | 88 => ⟨S_, .f32⟩
  | 89 => ⟨S8x64x160x160, .f32⟩
  | 90 => ⟨S8x64x160x160, .f32⟩
  | 91 => ⟨S_, .f32⟩
  | 92 => ⟨S8x64x160x160, .f32⟩
  | 93 => ⟨S8x64x160x160, .f32⟩
  | 94 => ⟨S_, .f32⟩
  | 95 => ⟨S_, .f32⟩
  | 96 => ⟨S_, .f32⟩
  | 97 => ⟨S8x64x160x160, .f32⟩
  | 98 => ⟨S8x64x160x160, .f32⟩
  | 99 => ⟨S_, .f32⟩
  | 100 => ⟨S8x64x160x160, .f32⟩
  | 101 => ⟨S8x64x160x160, .f32⟩
  | 102 => ⟨S_, .f32⟩
  | 103 => ⟨S8x64, .f32⟩
  | 104 => ⟨S_, .f32⟩
  | 105 => ⟨S8x64, .f32⟩
  | 106 => ⟨S8x64, .f32⟩
  | 107 => ⟨S16x64, .f32⟩
  | 108 => ⟨S64x16, .f32⟩
  | 109 => ⟨S8x16, .f32⟩
  | 110 => ⟨S1x16, .f32⟩
  | 111 => ⟨S8x16, .f32⟩
  | 112 => ⟨S8x16, .f32⟩
  | 113 => ⟨S_, .f32⟩
  | 114 => ⟨S8x16, .f32⟩
  | 115 => ⟨S8x16, .f32⟩
  | 116 => ⟨S64x16, .f32⟩
  | 117 => ⟨S16x64, .f32⟩
  | 118 => ⟨S8x64, .f32⟩
  | 119 => ⟨S1x64, .f32⟩
  | 120 => ⟨S8x64, .f32⟩
  | 121 => ⟨S8x64, .f32⟩
  | 122 => ⟨S8x64, .f32⟩
  | 123 => ⟨S8x64, .f32⟩
  | 124 => ⟨S_, .f32⟩
  | 125 => ⟨S8x64, .f32⟩
  | 126 => ⟨S8x64, .f32⟩
  | 127 => ⟨S_, .f32⟩
  | _ => ⟨S8x256x160x160, .f32⟩

abbrev hbmTy0_2 (i : Nat) : BufTy := match i % 128 with
  | 0 => ⟨S8x64, .f32⟩
  | 1 => ⟨S8x64, .f32⟩
  | 2 => ⟨S8x64x1x1, .f32⟩
  | 3 => ⟨S8x64x160x160, .f32⟩
  | 4 => ⟨S8x64x160x160, .f32⟩
  | 5 => ⟨S128, .f32⟩
  | 6 => ⟨S64, .f32⟩
  | 7 => ⟨S8x160x160, .f32⟩
  | 8 => ⟨S64, .f32⟩
  | 9 => ⟨S8x160x160, .f32⟩
  | 10 => ⟨S8x160x160, .f32⟩
  | 11 => ⟨S8x160x160, .f32⟩
  | 12 => ⟨S8x160x160, .f32⟩
  | 13 => ⟨S_, .f32⟩
  | 14 => ⟨S8x160x160, .f32⟩
  | 15 => ⟨S8x160x160, .f32⟩
  | 16 => ⟨S_, .f32⟩
  | 17 => ⟨S8x160x160, .f32⟩
  | 18 => ⟨S8x160x160, .f32⟩
  | 19 => ⟨S8x1x160x160, .f32⟩
  | 20 => ⟨S_, .f32⟩
  | 21 => ⟨S8x1x160x160, .f32⟩
  | 22 => ⟨S8x1x160x160, .f32⟩
  | 23 => ⟨S_, .f32⟩
  | 24 => ⟨S8x1x160x160, .f32⟩
  | 25 => ⟨S8x1x160x160, .f32⟩
  | 26 => ⟨S8x256x160x160, .f32⟩
  | 27 => ⟨S8x256x160x160, .f32⟩
  | _ => ⟨S8x256x160x160, .f32⟩

abbrev hbmTy (i : Nat) : BufTy := match i / 128 with
  | 0 => hbmTy0_0 i
  | 1 => hbmTy0_1 i
  | 2 => hbmTy0_2 i
  | _ => ⟨S8x256x160x160, .f32⟩

abbrev bufTy : (tb : Table) → Fin (tcTables nBuf tb) → BufTy
  | .hbm, ⟨i, _⟩ => hbmTy i
  | _, _ => ⟨S8x256x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_cst_3 : Ref sig .tc := ⟨.hbm, 37, rfl⟩
abbrev main_call0_v13 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst_1 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_c_2 : Ref sig .tc := ⟨.hbm, 58, rfl⟩
abbrev main_call1_v0 : Ref sig .tc := ⟨.hbm, 59, rfl⟩
abbrev main_v23 : Ref sig .tc := ⟨.hbm, 60, rfl⟩
abbrev main_v24 : Ref sig .tc := ⟨.hbm, 61, rfl⟩
abbrev main_cst_3 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_4 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_5 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_6 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_7 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_8 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_9 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_10 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_11 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_12 : Ref sig .tc := ⟨.hbm, 105, rfl⟩
abbrev main_v59 : Ref sig .tc := ⟨.hbm, 106, rfl⟩
abbrev main_v60 : Ref sig .tc := ⟨.hbm, 107, rfl⟩
abbrev main_c_13 : Ref sig .tc := ⟨.hbm, 108, rfl⟩
abbrev main_call2_v0 : Ref sig .tc := ⟨.hbm, 109, rfl⟩
abbrev main_v61 : Ref sig .tc := ⟨.hbm, 110, rfl⟩
abbrev main_v62 : Ref sig .tc := ⟨.hbm, 111, rfl⟩
abbrev main_cst_14 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_15 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_cst_16 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_17 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_18 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_19 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_cst_20 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_cst_21 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_cst_22 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_c_23 : Ref sig .tc := ⟨.hbm, 155, rfl⟩
abbrev main_call3_v0 : Ref sig .tc := ⟨.hbm, 156, rfl⟩
abbrev main_v97 : Ref sig .tc := ⟨.hbm, 157, rfl⟩
abbrev main_v98 : Ref sig .tc := ⟨.hbm, 158, rfl⟩
abbrev main_cst_24 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_cst_25 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_cst_26 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_cst_27 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_cst_28 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_cst_29 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_cst_30 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_cst_31 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_cst_32 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_cst_33 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_cst_34 : Ref sig .tc := ⟨.hbm, 211, rfl⟩
abbrev main_cst_35 : Ref sig .tc := ⟨.hbm, 212, rfl⟩
abbrev main_call4_v0 : Ref sig .tc := ⟨.hbm, 213, rfl⟩
abbrev main_call4_v1 : Ref sig .tc := ⟨.hbm, 214, rfl⟩
abbrev main_call4_v2 : Ref sig .tc := ⟨.hbm, 215, rfl⟩
abbrev main_call4_v3 : Ref sig .tc := ⟨.hbm, 216, rfl⟩
abbrev main_call4_v4 : Ref sig .tc := ⟨.hbm, 217, rfl⟩
abbrev main_v141 : Ref sig .tc := ⟨.hbm, 218, rfl⟩
abbrev main_cst_36 : Ref sig .tc := ⟨.hbm, 219, rfl⟩
abbrev main_v142 : Ref sig .tc := ⟨.hbm, 220, rfl⟩
abbrev main_v143 : Ref sig .tc := ⟨.hbm, 221, rfl⟩
abbrev main_cst_37 : Ref sig .tc := ⟨.hbm, 222, rfl⟩
abbrev main_cst_38 : Ref sig .tc := ⟨.hbm, 223, rfl⟩
abbrev main_call5_v0 : Ref sig .tc := ⟨.hbm, 224, rfl⟩
abbrev main_call5_v1 : Ref sig .tc := ⟨.hbm, 225, rfl⟩
abbrev main_call5_v2 : Ref sig .tc := ⟨.hbm, 226, rfl⟩
abbrev main_call5_v3 : Ref sig .tc := ⟨.hbm, 227, rfl⟩
abbrev main_call5_v4 : Ref sig .tc := ⟨.hbm, 228, rfl⟩
abbrev main_v144 : Ref sig .tc := ⟨.hbm, 229, rfl⟩
abbrev main_cst_39 : Ref sig .tc := ⟨.hbm, 230, rfl⟩
abbrev main_v145 : Ref sig .tc := ⟨.hbm, 231, rfl⟩
abbrev main_cst_40 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_call6_cst : Ref sig .tc := ⟨.hbm, 241, rfl⟩
abbrev main_call6_v0 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_41 : Ref sig .tc := ⟨.hbm, 252, rfl⟩
abbrev main_v163 : Ref sig .tc := ⟨.hbm, 253, rfl⟩
abbrev main_v164 : Ref sig .tc := ⟨.hbm, 254, rfl⟩
abbrev main_cst_42 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_cst_43 : Ref sig .tc := ⟨.hbm, 269, rfl⟩
abbrev main_v178 : Ref sig .tc := ⟨.hbm, 270, rfl⟩
abbrev main_v179 : Ref sig .tc := ⟨.hbm, 271, rfl⟩
abbrev main_cst_44 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_cst_45 : Ref sig .tc := ⟨.hbm, 276, rfl⟩
abbrev main_v183 : Ref sig .tc := ⟨.hbm, 277, rfl⟩
abbrev main_v184 : Ref sig .tc := ⟨.hbm, 278, rfl⟩
abbrev main_cst_46 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩

abbrev nD : Nat := 1
abbrev τ : Topo := Topo.v7x

variable {F : FTy → Type} [FloatOps F]
-- ==== Proof.Spec.lean ====
/-
  The arithmetic that relates the kernel to the reference, on extended reals: the curvature of a pixel from its nine taps, the
  normalization of a channel, its mean, the fused gate weights.
-/
module

public import Idealize.ShloMosaic.Lib.IdealHost
public import Mathlib.Tactic.Linarith
public import Mathlib.Tactic.Positivity
public import Mathlib.Tactic.NormNum
public import Mathlib.Tactic.Ring

@[expose] public section

noncomputable section

namespace Cert.Spec

open Idealize.ShloMosaic

/-- A value that is a real number. -/
def IsR (x : EReal) : Prop := ∃ r : ℝ, x = (r : EReal)
/-- A value that is one of the two infinities. -/
def IsInf (x : EReal) : Prop := x = ⊤ ∨ x = ⊥
/-- The absolute value. -/
def ab (x : EReal) : EReal := max x (-x)

theorem isR_or_isInf (x : EReal) : IsR x ∨ IsInf x := by
  induction x using EReal.rec with
  | bot => exact .inr (.inr rfl)
  | top => exact .inr (.inl rfl)
  | coe r => exact .inl ⟨r, rfl⟩

theorem coe_max' (a b : ℝ) : max (a : EReal) (b : EReal) = ((max a b : ℝ) : EReal) :=
  (EReal.coe_strictMono.monotone.map_max).symm
theorem coe_min' (a b : ℝ) : min (a : EReal) (b : EReal) = ((min a b : ℝ) : EReal) :=
  (EReal.coe_strictMono.monotone.map_min).symm

theorem ab_coe (r : ℝ) : ab (r : EReal) = ((|r| : ℝ) : EReal) := by
  unfold ab
  rw [← EReal.coe_neg, coe_max']
  rfl
theorem ab_inf {x : EReal} (h : IsInf x) : ab x = ⊤ := by
  rcases h with rfl | rfl <;> simp [ab]
theorem ab_nonneg (x : EReal) : 0 ≤ ab x := by
  rcases isR_or_isInf x with ⟨r, rfl⟩ | h
  · rw [ab_coe]; exact EReal.coe_nonneg.mpr (abs_nonneg r)
  · rw [ab_inf h]; exact le_top

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]
/-- A quotient by an infinity is zero. -/
theorem div_top (x : EReal) : Ideal.div x ⊤ = 0 := by
  unfold Ideal.div
  rw [if_neg EReal.top_ne_zero, EReal.inv_top, mul_zero]

theorem inf_add_left {x : EReal} (y : EReal) (h : IsInf x) : IsInf (x + y) := by
  rcases h with rfl | rfl
  · induction y using EReal.rec with
    | bot => exact .inr (by simp)
    | top => exact .inl (by simp)
    | coe r => exact .inl (by simp)
  · exact .inr (by simp)
theorem inf_add_right (x : EReal) {y : EReal} (h : IsInf y) : IsInf (x + y) := by
  rw [add_comm]; exact inf_add_left x h
theorem inf_neg {x : EReal} (h : IsInf x) : IsInf (-x) := by
  rcases h with rfl | rfl
  · exact .inr (by simp)
  · exact .inl (by simp)
theorem inf_sub_left {x : EReal} (y : EReal) (h : IsInf x) : IsInf (x - y) := by
  rw [sub_eq_add_neg]; exact inf_add_left _ h
theorem inf_sub_right (x : EReal) {y : EReal} (h : IsInf y) : IsInf (x - y) := by
  rw [sub_eq_add_neg]; exact inf_add_right _ (inf_neg h)
theorem inf_coe_mul {c : ℝ} (hc : c ≠ 0) {x : EReal} (h : IsInf x) : IsInf ((c : EReal) * x) := by
  rcases lt_or_gt_of_ne hc with hc | hc <;> rcases h with rfl | rfl
  · exact .inr (EReal.coe_mul_top_of_neg hc)
  · exact .inl (EReal.coe_mul_bot_of_neg hc)
  · exact .inl (EReal.coe_mul_top_of_pos hc)
  · exact .inr (EReal.coe_mul_bot_of_pos hc)

/-! ## The curvature of a pixel -/

/-- The smoothing constant of the kernel's denominator, four times the reference's. -/
def e4 : ℝ := 13743895 / 34359738368
/-- The smoothing constant of the reference's denominator. -/
def e1 : ℝ := 13743895 / 137438953472

section
variable (T : ℕ → ℕ → EReal)
/-- The sum of a column of taps. -/
def colS (b : ℕ) : EReal := T 0 b + T 1 b + T 2 b
/-- The difference of a column's ends. -/
def colE (b : ℕ) : EReal := T 0 b - T 2 b
/-- Nine times the local mean. -/
def mu9 : EReal := colS T 1 + colS T 0 + colS T 2
/-- Four times the horizontal derivative. -/
def gxK : EReal := colS T 0 + T 1 0 - (colS T 2 + T 1 2)
/-- Four times the vertical derivative. -/
def gyK : EReal := colE T 0 + colE T 1 + colE T 1 + colE T 2
/-- The curvature as the kernel computes it. -/
def kapK : EReal :=
  1 - min (Ideal.div (ab (T 1 1 * ((9 : ℝ) : EReal) - mu9 T) * ((4 / 9 : ℝ) : EReal)) (ab (gxK T) + ab (gyK T) + (e4 : EReal))) ((2 : ℝ) : EReal)

/-- The correlation of the nine taps with nine weights. -/
def corr (k : ℕ → ℕ → ℝ) : EReal :=
  (k 0 0 : EReal) * T 0 0 + (k 0 1 : EReal) * T 0 1 + (k 0 2 : EReal) * T 0 2 + (k 1 0 : EReal) * T 1 0 + (k 1 1 : EReal) * T 1 1
    + (k 1 2 : EReal) * T 1 2 + (k 2 0 : EReal) * T 2 0 + (k 2 1 : EReal) * T 2 1 + (k 2 2 : EReal) * T 2 2
/-- The weights of the mean, times nine. -/
def wOne (_ _ : ℕ) : ℝ := 1
/-- The weights of the horizontal derivative. -/
def wX : ℕ → ℕ → ℝ
  | 0, 0 => 1 / 4 | 0, 2 => -(1 / 4) | 1, 0 => 1 / 2 | 1, 2 => -(1 / 2) | 2, 0 => 1 / 4 | 2, 2 => -(1 / 4) | _, _ => 0
/-- The weights of the vertical derivative. -/
def wY : ℕ → ℕ → ℝ
  | 0, 0 => 1 / 4 | 0, 1 => 1 / 2 | 0, 2 => 1 / 4 | 2, 0 => -(1 / 4) | 2, 1 => -(1 / 2) | 2, 2 => -(1 / 4) | _, _ => 0
/-- The curvature as the reference computes it. -/
def kapR : EReal :=
  min ((1 : ℝ) : EReal) (max ((-1 : ℝ) : EReal) (((1 : ℝ) : EReal) - min ((2 : ℝ) : EReal) (max ((0 : ℝ) : EReal)
    (Ideal.div (ab (T 1 1 - Ideal.div (corr T wOne) ((9 : ℝ) : EReal))) (ab (corr T wX) + ab (corr T wY) + (e1 : EReal))))))
end

/-- The reference's clips do nothing to a nonnegative ratio. -/
theorem clip_eq (q : ℝ) (hq : 0 ≤ q) : min 1 (max (-1) (1 - min 2 (max 0 q))) = 1 - min q 2 := by
  rw [max_eq_right hq, min_comm 2 q]
  have h : min q 2 ≤ 2 := min_le_right _ _
  have h' : 0 ≤ min q 2 := le_min hq (by norm_num)
  rw [max_eq_right (by linarith), min_eq_right (by linarith)]

/-- At real taps the two curvatures are one real number. -/
theorem kap_real (t : ℕ → ℕ → ℝ) : ∃ k : ℝ, kapK (fun a b => (t a b : EReal)) = k ∧ kapR (fun a b => (t a b : EReal)) = k := by
  set mu : ℝ := (t 0 1 + t 1 1 + t 2 1) + (t 0 0 + t 1 0 + t 2 0) + (t 0 2 + t 1 2 + t 2 2) with hmu
  set gx : ℝ := (t 0 0 + t 1 0 + t 2 0) + t 1 0 - ((t 0 2 + t 1 2 + t 2 2) + t 1 2) with hgx
  set gy : ℝ := (t 0 0 - t 2 0) + (t 0 1 - t 2 1) + (t 0 1 - t 2 1) + (t 0 2 - t 2 2) with hgy
  have e4pos : (0 : ℝ) < e4 := by unfold e4; norm_num
  have e1pos : (0 : ℝ) < e1 := by unfold e1; norm_num
  have e41 : e4 = 4 * e1 := by unfold e4 e1; norm_num
  have hd : (0 : ℝ) < |gx| + |gy| + e4 := by positivity
  have hd1 : (0 : ℝ) < |gx / 4| + |gy / 4| + e1 := by positivity
  have hmuR : corr (fun a b => (t a b : EReal)) wOne = (mu : EReal) := by
    unfold corr wOne
    simp only [← EReal.coe_mul, ← EReal.coe_add]
    congr 1; rw [hmu]; ring
  have hgxR : corr (fun a b => (t a b : EReal)) wX = ((gx / 4 : ℝ) : EReal) := by
    unfold corr wX
    simp only [← EReal.coe_mul, ← EReal.coe_add]
    congr 1; rw [hgx]; ring
  have hgyR : corr (fun a b => (t a b : EReal)) wY = ((gy / 4 : ℝ) : EReal) := by
    unfold corr wY
    simp only [← EReal.coe_mul, ← EReal.coe_add]
    congr 1; rw [hgy]; ring
  have hmuK : mu9 (fun a b => (t a b : EReal)) = (mu : EReal) := by
    unfold mu9 colS; simp only [← EReal.coe_add]; rfl
  have hgxK : gxK (fun a b => (t a b : EReal)) = (gx : EReal) := by
    unfold gxK colS; simp only [← EReal.coe_add, ← EReal.coe_sub]; rfl
  have hgyK : gyK (fun a b => (t a b : EReal)) = (gy : EReal) := by
    unfold gyK colE; simp only [← EReal.coe_add, ← EReal.coe_sub]; rfl
  refine ⟨1 - min (|t 1 1 * 9 - mu| * (4 / 9) / (|gx| + |gy| + e4)) 2, ?_, ?_⟩
  · unfold kapK
    rw [hmuK, hgxK, hgyK]
    simp only [← EReal.coe_mul, ← EReal.coe_sub, ab_coe, ← EReal.coe_add]
    rw [div_coe _ _ hd.ne', coe_min', ← EReal.coe_one, ← EReal.coe_sub]
  · unfold kapR
    rw [hmuR, hgxR, hgyR, div_coe _ _ (by norm_num)]
    simp only [← EReal.coe_mul, ← EReal.coe_sub, ab_coe, ← EReal.coe_add]
    rw [div_coe _ _ hd1.ne', coe_max', coe_min', ← EReal.coe_sub, coe_max', coe_min', clip_eq _ (by positivity)]
    congr 3
    rw [show t 1 1 * 9 - mu = 9 * (t 1 1 - mu / 9) by ring, abs_mul, abs_div, abs_div, e41, abs_of_pos (by norm_num : (0 : ℝ) < 9),
      abs_of_pos (by norm_num : (0 : ℝ) < 4)]
    have h2 : (0 : ℝ) < |gx| / 4 + |gy| / 4 + e1 := by positivity
    rw [div_eq_div_iff h2.ne' (by positivity)]
    ring

/-- Where the pixel's left or right neighbour is infinite both curvatures are one. -/
theorem kap_inf (T : ℕ → ℕ → EReal) (h : IsInf (T 1 0) ∨ IsInf (T 1 2)) : kapK T = ((1 : ℝ) : EReal) ∧ kapR T = ((1 : ℝ) : EReal) := by
  have hk : IsInf (gxK T) := by
    unfold gxK
    rcases h with h | h
    · exact inf_sub_left _ (inf_add_right _ h)
    · exact inf_sub_right _ (inf_add_right _ h)
  have hr : IsInf (corr T wX) := by
    unfold corr
    rcases h with h | h
    · exact inf_add_left _ (inf_add_left _ (inf_add_left _ (inf_add_left _ (inf_add_left _ (inf_add_right _ (inf_coe_mul (by norm_num [wX]) h))))))
    · exact inf_add_left _ (inf_add_left _ (inf_add_left _ (inf_add_right _ (inf_coe_mul (by norm_num [wX]) h))))
  have top_add3 (y : EReal) (hy : 0 ≤ y) (e : ℝ) : ⊤ + y + (e : EReal) = ⊤ := by
    rw [EReal.top_add_of_ne_bot (fun hb => by rw [hb] at hy; exact absurd hy (by simp)), EReal.top_add_coe]
  constructor
  · unfold kapK
    rw [ab_inf hk, top_add3 _ (ab_nonneg _), div_top, ← EReal.coe_zero, coe_min', ← EReal.coe_one, ← EReal.coe_sub]
    norm_num
  · unfold kapR
    rw [ab_inf hr, top_add3 _ (ab_nonneg _), div_top, ← EReal.coe_zero, coe_max', coe_min', ← EReal.coe_sub, coe_max', coe_min']
    norm_num

/-- The two curvatures are one real number. -/
theorem kap_eq (T : ℕ → ℕ → EReal) (h : (∀ a b, IsR (T a b)) ∨ IsInf (T 1 0) ∨ IsInf (T 1 2)) :
    ∃ k : ℝ, kapK T = k ∧ kapR T = k := by
  rcases h with h | h
  · choose t ht using h
    obtain rfl : T = fun a b => (t a b : EReal) := funext fun a => funext fun b => ht a b
    exact kap_real t
  · exact ⟨1, kap_inf T h⟩

/-! ## The normalization of a channel -/

/-- The mean of the squares less the square of the mean is the mean square deviation. -/
theorem var_eq (f : Fin 8 → Fin 160 → Fin 160 → ℝ) (μ : ℝ) (hμ : μ = (∑ c, ∑ i, ∑ j, f c i j) / 204800) :
    (∑ c, ∑ i, ∑ j, f c i j * f c i j) / 204800 - μ * μ = (∑ c, ∑ i, ∑ j, (f c i j - μ) * (f c i j - μ)) / 204800 := by
  have h : ∑ c, ∑ i, ∑ j, (f c i j - μ) * (f c i j - μ) =
      (∑ c, ∑ i, ∑ j, f c i j * f c i j) - 2 * μ * (∑ c, ∑ i, ∑ j, f c i j) + 204800 * (μ * μ) := by
    have e : ∀ c i j, (f c i j - μ) * (f c i j - μ) = f c i j * f c i j - 2 * μ * f c i j + μ * μ := fun c i j => by ring
    simp only [e, Finset.sum_add_distrib, Finset.sum_sub_distrib, ← Finset.mul_sum, Finset.sum_const, Finset.card_univ, Fintype.card_fin,
      nsmul_eq_mul]
    ring
  have hs : ∑ c, ∑ i, ∑ j, f c i j = 204800 * μ := by rw [hμ]; ring
  rw [h, hs]; ring

/-- A folded scale and shift is the normalized form, whatever the shift. -/
theorem y_eq (r M rs γ : ℝ) (β : EReal) :
    (r : EReal) * ((γ * rs : ℝ) : EReal) + (β - (M : EReal) * ((γ * rs : ℝ) : EReal)) = ((r : EReal) - (M : EReal)) * (rs : EReal) * (γ : EReal) + β := by
  induction β using EReal.rec with
  | bot => simp [← EReal.coe_mul, ← EReal.coe_sub]
  | top => simp [← EReal.coe_mul, ← EReal.coe_sub]
  | coe b =>
    simp only [← EReal.coe_mul, ← EReal.coe_sub, ← EReal.coe_add]
    congr 1; ring

/-- A finite sum of real numbers, read as an extended real. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem sum_top {n : ℕ} (hn : 0 < n) : ∑ _i : Fin n, (⊤ : EReal) = ⊤ := by
  obtain ⟨k, rfl⟩ : ∃ k, n = k + 1 := ⟨n - 1, by omega⟩
  induction k with
  | zero => simp
  | succ k ih => rw [Fin.sum_univ_succ, ih (by omega)]; simp
theorem sum_bot {n : ℕ} (hn : 0 < n) : ∑ _i : Fin n, (⊥ : EReal) = ⊥ := by
  obtain ⟨k, rfl⟩ : ∃ k, n = k + 1 := ⟨n - 1, by omega⟩
  rw [Fin.sum_univ_succ]; simp

/-- The mean of a normalized channel from the mean of the raw one. -/
theorem pool_eq (r : Fin 160 → Fin 160 → ℝ) (M rs γ : ℝ) (β : EReal) :
    ((γ * rs : ℝ) : EReal) * Ideal.div ((∑ i, ∑ j, r i j : ℝ) : EReal) ((25600 : ℝ) : EReal) + (β - (M : EReal) * ((γ * rs : ℝ) : EReal))
      = Ideal.div (∑ i, ∑ j, (((r i j : EReal) - (M : EReal)) * (rs : EReal) * (γ : EReal) + β)) ((25600 : ℝ) : EReal) := by
  rw [div_coe _ _ (by norm_num)]
  have hinv : (0 : ℝ) < (25600 : ℝ)⁻¹ := by norm_num
  have hne : ((25600 : ℝ) : EReal) ≠ 0 := by exact_mod_cast (by norm_num : (25600 : ℝ) ≠ 0)
  induction β using EReal.rec with
  | bot =>
    simp only [← EReal.coe_mul, ← EReal.coe_sub, EReal.bot_sub, EReal.add_bot, sum_bot (n := 160) (by norm_num)]
    unfold Ideal.div
    rw [if_neg hne, ← EReal.coe_inv, EReal.bot_mul_coe_of_pos hinv]
  | top =>
    simp only [← EReal.coe_mul, ← EReal.coe_sub, EReal.top_sub_coe, EReal.coe_add_top, sum_top (n := 160) (by norm_num)]
    unfold Ideal.div
    rw [if_neg hne, ← EReal.coe_inv, EReal.top_mul_coe_of_pos hinv]
  | coe b =>
    simp only [← EReal.coe_mul, ← EReal.coe_sub, ← EReal.coe_add, coe_sum]
    rw [div_coe _ _ (by norm_num)]
    congr 1
    simp only [Finset.sum_add_distrib, sub_mul, Finset.sum_sub_distrib, ← Finset.sum_mul, Finset.sum_const, Finset.card_univ, Fintype.card_fin,
      nsmul_eq_mul]
    ring

/-- The fused gate weights. -/
theorem fuse_eq (k f1 f2 g : Fin 64 → ℝ) :
    ∑ c, (k c : EReal) * ((f1 c : EReal) + (g c : EReal) * (f2 c : EReal))
      = ∑ c, (k c : EReal) * (f1 c : EReal) + ∑ c, ((g c : EReal) * (k c : EReal)) * (f2 c : EReal) := by
  simp only [← EReal.coe_mul, ← EReal.coe_add, coe_sum]
  congr 1
  rw [← Finset.sum_add_distrib]
  exact Finset.sum_congr rfl fun c _ => by ring

/-- The logistic function is real-valued. -/
theorem logistic_real (x : EReal) : IsR (Ideal.logistic x) := by
  unfold Ideal.logistic
  generalize -x = z
  induction z using EReal.rec with
  | bot => exact ⟨1, by rw [show Ideal.exp ⊥ = 0 from rfl, add_zero, ← EReal.coe_one, div_coe _ _ one_ne_zero, div_one]⟩
  | top => exact ⟨0, by rw [show Ideal.exp ⊤ = ⊤ from rfl, ← EReal.coe_one, EReal.coe_add_top, div_top, EReal.coe_zero]⟩
  | coe r =>
    have h : (0 : ℝ) < 1 + Real.exp r := by have := Real.exp_pos r; linarith
    exact ⟨1 / (1 + Real.exp r), by
      rw [show Ideal.exp (r : EReal) = ((Real.exp r : ℝ) : EReal) from rfl, ← EReal.coe_one, ← EReal.coe_add, div_coe _ _ h.ne']⟩

/-- The reciprocal root of a positive real is real. -/
theorem rsqrt_real (v : ℝ) (hv : 0 < v) : ∃ r : ℝ, Ideal.rsqrt (v : EReal) = r :=
  ⟨(Real.sqrt v)⁻¹, by
    show (if v < 0 then (⊥ : EReal) else if v = 0 then ⊤ else (((Real.sqrt v)⁻¹ : ℝ) : EReal)) = _
    rw [if_neg hv.not_gt, if_neg hv.ne']⟩

end Cert.Spec

end
-- ==== Proof.SpecOut.lean ====
/-
  The kernel's result and the reference's, written out on one sample as functions of the arguments, and their equality where the
  image, the projection, the scale and the fusing weights are finite.
-/
module

public import proofs.«01_k».proof.Proof.Spec

@[expose] public section

noncomputable section

namespace Cert.Spec

open Idealize.ShloMosaic

/-- Channel `c` of group `g`. -/
def grp (g c : Fin 8) : Fin 64 := ⟨g.val * 8 + c.val, by omega⟩
/-- The group of a channel. -/
def gOf (o : Fin 64) : Fin 8 := ⟨o.val / 8, by omega⟩
/-- The place of a channel in its group. -/
def cOf (o : Fin 64) : Fin 8 := ⟨o.val % 8, by omega⟩

theorem grp_of (o : Fin 64) : grp (gOf o) (cOf o) = o := Fin.ext (by show o.val / 8 * 8 + o.val % 8 = o.val; omega)

/-- The smoothing constant of the normalization. -/
def epsV : EReal := Ideal.ofBits .f32 925353388#32
/-- The factor of the output modulation. -/
def c01 : EReal := Ideal.ofBits .f32 1036831949#32

theorem epsV_pos : ∃ e : ℝ, 0 < e ∧ epsV = e := by
  refine ⟨10995116 / 1099511627776, by norm_num, ?_⟩
  unfold epsV
  simp [Ideal.ofBits, Ideal.ieee, -EReal.coe_mul]; norm_num

/-- An image with a frame of zeros, its coordinates shifted by one. -/
def tap (y : Fin 160 → Fin 160 → EReal) (i j : ℕ) : EReal :=
  if h : (1 ≤ i ∧ i - 1 < 160) ∧ 1 ≤ j ∧ j - 1 < 160 then y ⟨i - 1, h.1.2⟩ ⟨j - 1, h.2.2⟩ else 0
/-- The nine taps of a pixel. -/
def taps (y : Fin 160 → Fin 160 → EReal) (i j : Fin 160) (a b : ℕ) : EReal := tap y (i.val + a) (j.val + b)

section
variable (x : Fin 256 → Fin 160 → Fin 160 → EReal) (w : Fin 64 → Fin 256 → EReal) (γ β : Fin 64 → EReal)
  (w1 : Fin 16 → Fin 64 → EReal) (b1 : Fin 16 → EReal) (w2 : Fin 64 → Fin 16 → EReal) (b2 f1 f2 : Fin 64 → EReal)

/-- The projected image. -/
def raw (o : Fin 64) (i j : Fin 160) : EReal := ∑ ch, w o ch * x ch i j

/-- The gate of a channel from the pooled channels. -/
def gate (p : Fin 64 → EReal) (o : Fin 64) : EReal :=
  Ideal.logistic ((∑ k, w2 o k * max ((∑ c, w1 k c * p c) + b1 k) 0) + b2 o)

/-! The kernel. -/

def sK (o : Fin 64) : EReal := ∑ i, ∑ j, raw x w o i j
def qK (o : Fin 64) : EReal := ∑ i, ∑ j, raw x w o i j * raw x w o i j
def meanK (g : Fin 8) : EReal := Ideal.div (∑ c, sK x w (grp g c)) ((204800 : ℝ) : EReal)
def varK (g : Fin 8) : EReal := Ideal.div (∑ c, qK x w (grp g c)) ((204800 : ℝ) : EReal) - meanK x w g * meanK x w g
def aK (o : Fin 64) : EReal := γ o * Ideal.rsqrt (varK x w (gOf o) + epsV)
def bK (o : Fin 64) : EReal := β o - meanK x w (gOf o) * aK x w γ o
def yK (o : Fin 64) (i j : Fin 160) : EReal := raw x w o i j * aK x w γ o + bK x w γ β o
def pK (o : Fin 64) : EReal := aK x w γ o * Ideal.div (sK x w o) ((25600 : ℝ) : EReal) + bK x w γ β o
def wK (o : Fin 64) : EReal := f1 o + gate w1 b1 w2 b2 (pK x w γ β) o * f2 o
def outK (ch : Fin 256) (i j : Fin 160) : EReal :=
  x ch i j * (1 + c01 * Ideal.logistic (∑ o, kapK (taps (yK x w γ β o) i j) * wK x w γ β w1 b1 w2 b2 f1 f2 o))

/-! The reference. -/

def meanR (g : Fin 8) : EReal := Ideal.div (∑ c, ∑ i, ∑ j, raw x w (grp g c) i j) ((204800 : ℝ) : EReal)
def varR (g : Fin 8) : EReal :=
  Ideal.div (∑ c, ∑ i, ∑ j, (raw x w (grp g c) i j - meanR x w g) * (raw x w (grp g c) i j - meanR x w g)) ((204800 : ℝ) : EReal)
def yR (o : Fin 64) (i j : Fin 160) : EReal :=
  (raw x w o i j - meanR x w (gOf o)) * Ideal.rsqrt (varR x w (gOf o) + epsV) * γ o + β o
def pR (o : Fin 64) : EReal := Ideal.div (∑ i, ∑ j, yR x w γ β o i j) ((25600 : ℝ) : EReal)
def outR (ch : Fin 256) (i j : Fin 160) : EReal :=
  x ch i j * (1 + c01 * Ideal.logistic (∑ o, kapR (taps (yR x w γ β o) i j) * f1 o
    + ∑ o, (gate w1 b1 w2 b2 (pR x w γ β) o * kapR (taps (yR x w γ β o) i j)) * f2 o))
end

/-- At a real image and real projection the normalization of a channel is: a real mean, a real positive reciprocal root, the same for
    both programs. -/
theorem norm_real (xr : Fin 256 → Fin 160 → Fin 160 → ℝ) (wr : Fin 64 → Fin 256 → ℝ) :
    ∃ (r : Fin 64 → Fin 160 → Fin 160 → ℝ) (M rs : Fin 8 → ℝ),
      (∀ o i j, raw (fun a b c => (xr a b c : EReal)) (fun a b => (wr a b : EReal)) o i j = r o i j)
      ∧ (∀ g, meanK (fun a b c => (xr a b c : EReal)) (fun a b => (wr a b : EReal)) g = M g)
      ∧ (∀ g, meanR (fun a b c => (xr a b c : EReal)) (fun a b => (wr a b : EReal)) g = M g)
      ∧ (∀ g, Ideal.rsqrt (varK (fun a b c => (xr a b c : EReal)) (fun a b => (wr a b : EReal)) g + epsV) = rs g)
      ∧ (∀ g, Ideal.rsqrt (varR (fun a b c => (xr a b c : EReal)) (fun a b => (wr a b : EReal)) g + epsV) = rs g) := by
  obtain ⟨e, he, hev⟩ := epsV_pos
  set r : Fin 64 → Fin 160 → Fin 160 → ℝ := fun o i j => ∑ ch, wr o ch * xr ch i j with hr
  have hraw : ∀ o i j, raw (fun a b c => (xr a b c : EReal)) (fun a b => (wr a b : EReal)) o i j = (r o i j : EReal) := by
    intro o i j
    unfold raw
    simp only [← EReal.coe_mul, coe_sum]; rfl
  set M : Fin 8 → ℝ := fun g => (∑ c, ∑ i, ∑ j, r (grp g c) i j) / 204800 with hM
  set V : Fin 8 → ℝ := fun g => (∑ c, ∑ i, ∑ j, (r (grp g c) i j - M g) * (r (grp g c) i j - M g)) / 204800 with hV
  have hVpos : ∀ g, 0 < V g + e := fun g => by
    have : 0 ≤ V g := div_nonneg (Finset.sum_nonneg fun c _ => Finset.sum_nonneg fun i _ => Finset.sum_nonneg fun j _ => mul_self_nonneg _) (by norm_num)
    linarith
  have hmK : ∀ g, meanK (fun a b c => (xr a b c : EReal)) (fun a b => (wr a b : EReal)) g = (M g : EReal) := by
    intro g
    unfold meanK sK
    simp only [hraw, coe_sum]
    exact div_coe _ _ (by norm_num)
  have hmR : ∀ g, meanR (fun a b c => (xr a b c : EReal)) (fun a b => (wr a b : EReal)) g = (M g : EReal) := by
    intro g
    unfold meanR
    simp only [hraw, coe_sum]
    exact div_coe _ _ (by norm_num)
  have hvK : ∀ g, varK (fun a b c => (xr a b c : EReal)) (fun a b => (wr a b : EReal)) g = (V g : EReal) := by
    intro g
    unfold varK qK
    rw [hmK]
    simp only [hraw, ← EReal.coe_mul, coe_sum]
    rw [div_coe _ _ (by norm_num), ← EReal.coe_sub, var_eq (fun c i j => r (grp g c) i j) (M g) rfl]
  have hvR : ∀ g, varR (fun a b c => (xr a b c : EReal)) (fun a b => (wr a b : EReal)) g = (V g : EReal) := by
    intro g
    unfold varR
    rw [hmR]
    simp only [hraw, ← EReal.coe_sub, ← EReal.coe_mul, coe_sum]
    exact div_coe _ _ (by norm_num)
  choose rs hrs using fun g => rsqrt_real (V g + e) (hVpos g)
  refine ⟨r, M, rs, hraw, hmK, hmR, fun g => ?_, fun g => ?_⟩
  · rw [hvK, hev, ← EReal.coe_add, hrs]
  · rw [hvR, hev, ← EReal.coe_add, hrs]

theorem taps_real (y : Fin 160 → Fin 160 → EReal) (i j : Fin 160) (h : ∀ i j, IsR (y i j)) (a b : ℕ) : IsR (taps y i j a b) := by
  unfold taps tap
  split_ifs
  · exact h _ _
  · exact ⟨0, rfl⟩

theorem taps_inf (y : Fin 160 → Fin 160 → EReal) (i j : Fin 160) (h : ∀ i j, IsInf (y i j)) :
    IsInf (taps y i j 1 0) ∨ IsInf (taps y i j 1 2) := by
  have hi := i.isLt
  have hj := j.isLt
  by_cases hz : j.val = 0
  · right
    unfold taps tap
    rw [dif_pos (by omega)]
    exact h _ _
  · left
    unfold taps tap
    rw [dif_pos (by omega)]
    exact h _ _

/-- The two results are equal. -/
theorem out_eq (x : Fin 256 → Fin 160 → Fin 160 → EReal) (w : Fin 64 → Fin 256 → EReal) (γ β : Fin 64 → EReal)
    (w1 : Fin 16 → Fin 64 → EReal) (b1 : Fin 16 → EReal) (w2 : Fin 64 → Fin 16 → EReal) (b2 f1 f2 : Fin 64 → EReal)
    (hx : ∀ a b c, IsR (x a b c)) (hw : ∀ a b, IsR (w a b)) (hγ : ∀ a, IsR (γ a)) (hf1 : ∀ a, IsR (f1 a)) (hf2 : ∀ a, IsR (f2 a))
    (ch : Fin 256) (i j : Fin 160) :
    outK x w γ β w1 b1 w2 b2 f1 f2 ch i j = outR x w γ β w1 b1 w2 b2 f1 f2 ch i j := by
  choose xr hx using hx
  obtain rfl : x = fun a b c => (xr a b c : EReal) := funext fun a => funext fun b => funext fun c => hx a b c
  choose wr hw using hw
  obtain rfl : w = fun a b => (wr a b : EReal) := funext fun a => funext fun b => hw a b
  choose gr hγ using hγ
  choose f1r hf1 using hf1
  choose f2r hf2 using hf2
  obtain ⟨r, M, rs, hraw, hmK, hmR, hrK, hrR⟩ := norm_real xr wr
  set x : Fin 256 → Fin 160 → Fin 160 → EReal := fun a b c => (xr a b c : EReal)
  set w : Fin 64 → Fin 256 → EReal := fun a b => (wr a b : EReal)
  have haK : ∀ o, aK x w γ o = ((gr o * rs (gOf o) : ℝ) : EReal) := fun o => by
    unfold aK; rw [hrK, hγ, EReal.coe_mul]
  have hyK : ∀ o i j, yK x w γ β o i j = yR x w γ β o i j := fun o i j => by
    unfold yK yR bK
    rw [haK, hraw, hmK, hmR, hrR, y_eq, hγ]
  have hpK : pK x w γ β = pR x w γ β := funext fun o => by
    unfold pK pR bK sK yR
    simp only [hraw, hmR, hrR, hγ, haK, hmK, coe_sum]
    exact pool_eq (r o) (M (gOf o)) (rs (gOf o)) (gr o) (β o)
  have hy : ∀ o, (∀ i j, IsR (yR x w γ β o i j)) ∨ ∀ i j, IsInf (yR x w γ β o i j) := fun o => by
    have e : ∀ i j, yR x w γ β o i j = (((r o i j - M (gOf o)) * rs (gOf o) * gr o : ℝ) : EReal) + β o := fun i j => by
      unfold yR
      rw [hraw, hmR, hrR, hγ, ← EReal.coe_sub, ← EReal.coe_mul, ← EReal.coe_mul]
    rcases isR_or_isInf (β o) with ⟨b, hb⟩ | hb
    · exact .inl fun i j => ⟨_, by rw [e, hb, ← EReal.coe_add]⟩
    · exact .inr fun i j => by rw [e]; exact inf_add_right _ hb
  have hk : ∀ o, ∃ k : ℝ, kapK (taps (yR x w γ β o) i j) = k ∧ kapR (taps (yR x w γ β o) i j) = k := fun o =>
    kap_eq _ ((hy o).imp (fun h => taps_real _ _ _ h) fun h => taps_inf _ _ _ h)
  choose k hkK hkR using hk
  choose g hg using fun o => logistic_real ((∑ k, w2 o k * max ((∑ c, w1 k c * pR x w γ β c) + b1 k) 0) + b2 o)
  have hgate : ∀ o, gate w1 b1 w2 b2 (pR x w γ β) o = (g o : EReal) := hg
  unfold outK outR wK
  have hy' : ∀ o, yK x w γ β o = yR x w γ β o := fun o => funext fun i => funext fun j => hyK o i j
  simp only [hy', hpK, hkK, hkR, hgate, hf1, hf2]
  rw [fuse_eq]

end Cert.Spec

end
-- ==== Proof.KIPre.lean ====
/-
  The precondition at `F := Ideal`: every element of the four arguments it reads is a real number.
-/
module

public import proofs.«01_k».proof.Pre_inputs_finite
public import proofs.«01_k».proof.Proof.SpecOut
public import Idealize.ShloMosaic.Lib.ReduceAll
public import Idealize.ShloMosaic.Lib.Claim
public import Idealize.ShloMosaic.Lib.Pointwise

@[expose] public section

set_option maxRecDepth 16384

noncomputable section

namespace Cert.Pre_inputs_finite.Hand

open Cert.Pre_inputs_finite Cert.Spec
open Idealize.ShloMosaic Idealize.ShloMosaic.TcCoe Idealize.ShloMosaic.Tactic

/-- The shape relations the precondition states. -/
instance facts : Cert.Pre_inputs_finite.Facts where
  bcast_S_S8x256x160x160 := by decide
  reducesTo_S8x256x160x160_S_d0_1_2_3 := by decide
  h_S_ := by decide
  bcast_S_S64x256x1x1 := by decide
  reducesTo_S64x256x1x1_S_d0_1_2_3 := by decide
  bcast_S_S64 := by decide
  reducesTo_S64_S_d0 := by decide
  bcast_S_S1x128x1x1 := by decide
  reducesTo_S1x128x1x1_S_d0_1_2_3 := by decide

theorem inf_val : Ideal.ofBits .f32 2139095040#32 = ⊤ := by
  simp [Ideal.ofBits, Ideal.ieee]

/-- A value whose absolute value is below infinity is real. -/
theorem isR_of_lt (x : EReal) (h : max x (-x) < ⊤) : IsR x := by
  induction x using EReal.rec with
  | bot => simp at h
  | top => simp at h
  | coe r => exact ⟨r, rfl⟩

theorem and_one {a b : BitVec 1} (h : a &&& b = 1#1) : a = 1#1 ∧ b = 1#1 := by
  revert a b; decide

/-- One comparison of the precondition. -/
theorem isR_of_cmp {s : Shape} (x y : FVec Ideal s .f32) (i : s.Idx) (hy : y i = ⊤) (h : cmpf (F := Ideal) .olt (Host.absf x) y i = 1#1) : IsR (x i) := by
  have h2 : (if max (x i) (-(x i)) < y i then 1#1 else 0#1 : BitVec 1) = 1#1 := by
    refine Eq.trans ?_ h
    pointwise []
    show _ = BitVec.ofBool (decide (max (x i) (-(x i)) < y i))
    by_cases hl : max (x i) (-(x i)) < y i
    · rw [if_pos hl, decide_eq_true hl]; rfl
    · rw [if_neg hl, decide_eq_false hl]; rfl
  rw [hy] at h2
  refine isR_of_lt _ ?_
  by_contra hn
  rw [if_neg hn] at h2
  exact absurd h2 (by decide)

theorem pre_real (x0 : FVec Ideal S8x256x160x160 .f32) (x1 : FVec Ideal S64x256x1x1 .f32) (x2 x3 : FVec Ideal S64 .f32) (x4 : FVec Ideal S16x64x1x1 .f32)
    (x5 : FVec Ideal S16 .f32) (x6 : FVec Ideal S64x16x1x1 .f32) (x7 : FVec Ideal S64 .f32) (x8 : FVec Ideal S1x128x1x1 .f32)
    (h : fn (F := Ideal) x0 x1 x2 x3 x4 x5 x6 x7 x8 = fun _ => 1#1) :
    (∀ i, IsR (x0 i)) ∧ (∀ i, IsR (x1 i)) ∧ (∀ i, IsR (x2 i)) ∧ (∀ i, IsR (x8 i)) := by
  have hj := congrFun h (fun a => a.elim0)
  unfold fn fn_part1 at hj
  obtain ⟨h1, h8⟩ := and_one hj
  obtain ⟨h1, h2⟩ := and_one h1
  obtain ⟨h0, h1⟩ := and_one h1
  haveI : Subsingleton S_.Idx := ⟨fun a b => funext fun k => k.elim0⟩
  exact ⟨fun i => isR_of_cmp _ _ i inf_val (Host.reduce_andi_all _ _ _ _ _ h0 i), fun i => isR_of_cmp _ _ i inf_val (Host.reduce_andi_all _ _ _ _ _ h1 i),
    fun i => isR_of_cmp _ _ i inf_val (Host.reduce_andi_all _ _ _ _ _ h2 i), fun i => isR_of_cmp _ _ i inf_val (Host.reduce_andi_all _ _ _ _ _ h8 i)⟩

end Cert.Pre_inputs_finite.Hand

end
-- ==== Proof.KIFrame.lean ====
/-
  The frame of `KernelIdeal`: the kernel body run once per value of the second grid coordinate by `sl_exec`, over any contents of the
  staging buffers and of the five scratch buffers; nothing is said of what the output window is left with.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- A memref of core `c` owned whole at some contents. -/
abbrev anyC (c : Dev nD) {sp : Space} {S : Shape} {e : EltTy} (M : Memref sig .tc sp S e) : sProp 𝕄 :=
  iprop(∃ d, owns (c : Thread nD τ) M fullShare d)

/-- The five scratch buffers. -/
abbrev sc0 : Memref sig .tc .vmem S64x26112 .bf16 := Memref.whole cc0_scratch0
abbrev sc1 : Memref sig .tc .vmem S64x6720 .bf16 := Memref.whole cc0_scratch1
abbrev sc2 : Memref sig .tc .vmem S64x1 .f32 := Memref.whole cc0_scratch2
abbrev sc3 : Memref sig .tc .vmem S64x1 .f32 := Memref.whole cc0_scratch3
abbrev sc4 : Memref sig .tc .vmem S64x1 .f32 := Memref.whole cc0_scratch4

/-- The body's triple at any grid point, for any continuation: from every buffer at some contents to every buffer at some contents. -/
theorem bodyRun (c : Dev nD) (i : grid0.Coords) (arg2 : Memref sig .tc .vmem S1x256x6400 .f32) (harg2 : arg2.IsWhole) (arg3 : Memref sig .tc .vmem S64x256 .f32) (harg3 : arg3.IsWhole) (arg4 : Memref sig .tc .vmem S16x64 .f32) (harg4 : arg4.IsWhole) (arg5 : Memref sig .tc .vmem S64x16 .f32) (harg5 : arg5.IsWhole) (arg6 : Memref sig .tc .vmem S64x6 .f32) (harg6 : arg6.IsWhole) (arg7 : Memref sig .tc .vmem S1x256x40x160 .f32) (harg7 : arg7.IsWhole)
    (K : PUnit → sProp 𝕄) :
    iprop(anyC (F := F) c arg2 ∗ anyC (F := F) c arg3 ∗ anyC (F := F) c arg4 ∗ anyC (F := F) c arg5 ∗ anyC (F := F) c arg6 ∗ anyC (F := F) c arg7
        ∗ anyC (F := F) c sc0 ∗ anyC (F := F) c sc1 ∗ anyC (F := F) c sc2 ∗ anyC (F := F) c sc3 ∗ anyC (F := F) c sc4
        ∗ (iprop(anyC (F := F) c arg2 ∗ anyC (F := F) c arg3 ∗ anyC (F := F) c arg4 ∗ anyC (F := F) c arg5 ∗ anyC (F := F) c arg6 ∗ anyC (F := F) c arg7
        ∗ anyC (F := F) c sc0 ∗ anyC (F := F) c sc1 ∗ anyC (F := F) c sc2 ∗ anyC (F := F) c sc3 ∗ anyC (F := F) c sc4) -∗ K ⟨⟩))
      ⊢ wp frame (wpE (defs₀ (F := F)) Variants.none c none) Set.univ
          (cc0_adrc_pe_fused i arg2 harg2 arg3 harg3 arg4 harg4 arg5 harg5 arg6 harg6 arg7 harg7 sc0 (Memref.isWhole_whole _) sc1 (Memref.isWhole_whole _)
             sc2 (Memref.isWhole_whole _) sc3 (Memref.isWhole_whole _) sc4 (Memref.isWhole_whole _)) K := by
  simp only [cc0_adrc_pe_fused_eq_skeleton]; unfold cc0_adrc_pe_fused_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold anyC owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩,
    ⟨%e0, %g0, -, G0⟩, ⟨%e1, %g1, -, G1⟩, ⟨%e2, %g2, -, G2⟩, ⟨%e3, %g3, -, G3⟩, ⟨%e4, %g4, -, G4⟩, Hk⟩
  sl_exec
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [G0]
  · iexists _, _; isplitr; swap; · iexact G0
    ipureintro; rfl
  isplitl [G1]
  · iexists _, _; isplitr; swap; · iexact G1
    ipureintro; rfl
  isplitl [G2]
  · iexists _, _; isplitr; swap; · iexact G2
    ipureintro; rfl
  isplitl [G3]
  · iexists _, _; isplitr; swap; · iexact G3
    ipureintro; rfl
  iexists _, _; isplitr; swap; · iexact G4
  ipureintro; rfl

/-! ## The proof data and the body obligation -/

/-- The class invariant, conjunct by conjunct: the scratch at some contents and the generator register at some state. -/
theorem PhiA_eq (c : Dev nD) :
    (Pipeline.ΦA spec0 c : sProp 𝕄)
      = iprop((anyC (F := F) c sc0 ∗ anyC (F := F) c sc1 ∗ anyC (F := F) c sc2 ∗ anyC (F := F) c sc3 ∗ anyC (F := F) c sc4) ∗ (∃ r, prngReg c r)) := by
  unfold Pipeline.ΦA
  rw [scopedRest0_eq]; simp only [anyC, sc0, sc1, sc2, sc3, sc4, owns_whole]; try rfl

/-- The relational proof data: the arrays as the region finds them, nothing said of what the body leaves in a window. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation: `bodyRun` at the staging memrefs the pipeline passes. -/
theorem body_obligation (c : Dev nD) : (rdats (F := F) m c).BodyObligation (defs₀ (F := F)) Variants.none () Set.univ := by
  intro t Y hY
  rw [bigSep_W0, bigSep_W0, defs₀_row]
  unfold bodyAt0
  rw [show (rdats (F := F) m c).Φ t.succ = Pipeline.ΦA spec0 c from rfl,
    show (rdats (F := F) m c).Φ t.castSucc = Pipeline.ΦA spec0 c from rfl, PhiA_eq]
  iintro ⟨⟨⟨G0, G1, G2, G3, G4⟩, Hg⟩, HO, H2, H3, H4, H5, H6, H7⟩
  iapply (bodyRun c (grid0.coords t) _ _ _ _ _ _ _ _ _ _ _ _ _)
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [G0]; · iexact G0
  isplitl [G1]; · iexact G1
  isplitl [G2]; · iexact G2
  isplitl [G3]; · iexact G3
  isplitl [G4]; · iexact G4
  iintro ⟨H2, H3, H4, H5, H6, H7, G0, G1, G2, G3, G4⟩
  isplitl [Hg G0 G1 G2 G3 G4]
  · isplitr [Hg]
    · isplitl [G0]; · iexact G0
      isplitl [G1]; · iexact G1
      isplitl [G2]; · iexact G2
      isplitl [G3]; · iexact G3
      iexact G4
    · iexact Hg
  isplitl [HO]; · iexact HO
  isplitl [H2]
  · icases H2 with ⟨%d, H2⟩; iexists d; isplitr; · ipureintro; exact trivial
    iexact H2
  isplitl [H3]
  · icases H3 with ⟨%d, H3⟩; iexists d; isplitr; · ipureintro; exact trivial
    iexact H3
  isplitl [H4]
  · icases H4 with ⟨%d, H4⟩; iexists d; isplitr; · ipureintro; exact trivial
    iexact H4
  isplitl [H5]
  · icases H5 with ⟨%d, H5⟩; iexists d; isplitr; · ipureintro; exact trivial
    iexact H5
  isplitl [H6]
  · icases H6 with ⟨%d, H6⟩; iexists d; isplitr; · ipureintro; exact trivial
    iexact H6
  icases H7 with ⟨%d, H7⟩; iexists d; isplitr; · ipureintro; exact trivial
  iexact H7

/-! ## The launch -/

set_option backward.isDefEq.respectTransparency.types false in
/-- From any memory with zero counters: every weakly fair execution of @main terminates, with every buffer that is no window's array
    at its contents when the region is entered, and every counter at zero. -/
theorem run_main :
    θ_run defs (onTc (τ := τ) (main (F := F))) (s₀ m ρ)
      (fun r => Pipeline.RDat.FramePost (cfgs 0) (rdats m) (V m) r ∧ r.2.sem = fun _ => 0) :=
  Pipeline.RDat.θ_run_frame (Q' := _) cfgs (0 : Fin 1) launch0 defs₀ Variants.none (rdats m) m ρ main
    (hbody := body_obligation m) (hshare := fun c w => (rdats m c).share_full (fun _ => rfl) w)
    (howed := fun _ _ => rfl) (V := V m) (hmain := hmain m Variants.none) (hA := fun _ _ => rfl)
    (hΦ := fun _ _ => rfl)

/-- The frame claim's post. -/
theorem frame_main :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main m ρ)

end Cert.KernelIdeal.Hand

end
-- ==== Proof.KIBody.lean ====
/-
  The body of `KernelIdeal` with the contents it leaves: one triple per kind of point of the second grid axis, from named contents of
  the input windows and the scratch buffers to named contents of the scratch buffers and of the output window.
-/
module

public import proofs.«01_k».proof.Proof.KIFrame
public import Idealize.ShloMosaic.Lib.VecWindow
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig Unit (Elt F) ℕ (UR sig nD τ) ℕ

/-! ## Contents after a store through a rectangle -/

open Classical in
/-- The contents `d` with the rectangle `r` overwritten by `X`. -/
def put {S : Shape} {α : Type} (r : Rect S) (X : r.shape.Idx → α) (d : S.Idx → α) : S.Idx → α :=
  fun y => if h : y ∈ r.set then X (r.exists_idx_of_mem h).choose else d y

theorem put_idx {S : Shape} {α : Type} (r : Rect S) (X : r.shape.Idx → α) (d : S.Idx → α) (x : r.shape.Idx) (y : S.Idx)
    (h : ∀ a, (y a).val = r.off a + r.stride a * (x a).val) : put r X d y = X x := by
  have he : r.emb x = y := r.emb_eq_of_coords x y h
  have hm : y ∈ r.set := r.mem_set.mpr fun a => ⟨(x a).val, (x a).isLt, h a⟩
  unfold put; rw [dif_pos hm]
  have hs := (r.exists_idx_of_mem hm).choose_spec
  exact congrArg X (r.emb.injective (hs.trans he.symm))

theorem put_miss {S : Shape} {α : Type} (r : Rect S) (X : r.shape.Idx → α) (d : S.Idx → α) (y : S.Idx)
    (a : Fin S.rank) (o n : ℕ) (ho : r.off a = o) (hst : r.stride a = 1) (hn : r.size a = n)
    (h : (y a).val < o ∨ o + n ≤ (y a).val) : put r X d y = d y := by
  unfold put; rw [dif_neg (r.not_mem_set_of_axis y a o n ho hst hn h)]

/-- Reading after the newest write of a list is `put` on what was read before it. -/
theorem read_writes_put {sp : Space} {S : Shape} {e : EltTy} {κ : Kind} (v : View sig κ sp S e) (f : v.ty.Contents (Elt F))
    (r : Rect S) (X : r.shape.Idx → Elt F e) (L : List (View.Piece (Elt F) S e)) :
    v.read (Elt F) (v.writes (Elt F) f (⟨r, X⟩ :: L)) = put r X (v.read (Elt F) (v.writes (Elt F) f L)) := by
  funext y
  by_cases hm : y ∈ r.set
  · obtain ⟨x, hx⟩ := r.exists_idx_of_mem hm
    have hc : ∀ a, (y a).val = r.off a + r.stride a * (x a).val := fun a => by rw [← hx]; rfl
    rw [put_idx r X _ x y hc, View.read_writes_cons_hit_of_coords v f r X L x y hc]
  · rw [View.read_writes_cons_miss v f ⟨r, X⟩ L y hm]; unfold put; rw [dif_neg hm]

/-- Overwriting the whole shape leaves the payload. -/
theorem put_whole {S : Shape} {α : Type} {off : Fin S.rank → ℕ} (inb : ∀ a, off a + S.size a ≤ S.size a)
    (X : S.Idx → α) (d : S.Idx → α) : put (Rect.unit (s := S) off S.size inb) X d = X := by
  funext y
  exact put_idx (Rect.unit (s := S) off S.size inb) X d y y fun a => by
    show (y a).val = off a + 1 * (y a).val
    have := inb a; omega

/-- A load of the whole shape after a store of the whole shape reads the payload. -/
theorem readCov_whole {sp : Space} {S : Shape} {e : EltTy} {κ : Kind} (v : View sig κ sp S e) {off : Fin S.rank → ℕ}
    (inb : ∀ a, off a + S.size a ≤ S.size a) (X : S.Idx → Elt F e) :
    v.readCov [(⟨Rect.unit (s := S) off S.size inb, X⟩ : View.Piece (Elt F) S e)] (Rect.unit (s := S) off S.size inb).toLoadRect = X :=
  (View.readAt_full (Val := Elt F) v _ inb).trans ((read_writes_put v _ _ _ _).trans (put_whole inb X _))

/-- A load through a rectangle after a store of the whole shape reads the payload there. -/
theorem readCov_ld {sp : Space} {S : Shape} {e : EltTy} {κ : Kind} (v : View sig κ sp S e) {off : Fin S.rank → ℕ}
    (inb : ∀ a, off a + S.size a ≤ S.size a) (X : S.Idx → Elt F e) (r : Rect S) :
    v.readCov [(⟨Rect.unit (s := S) off S.size inb, X⟩ : View.Piece (Elt F) S e)] r.toLoadRect = View.ld X r :=
  congrArg (fun Y => View.ld (Val := Elt F) (e' := e) Y r) ((read_writes_put v _ _ _ _).trans (put_whole inb X _))

/-! ## The payloads by name -/

/-- The slab of width 6400 at column `o` of the row buffer. -/
abbrev slabR (o : ℕ) (h : ∀ a, (![0, o] : Fin 2 → ℕ) a + S64x6400.size a ≤ S64x26112.size a) : Rect S64x26112 :=
  Rect.unit (s := S64x26112) ![0, o] S64x6400.size h
/-- The interior of the row buffer: every column outside the two pads. -/
abbrev inR : Rect S64x26112 := Rect.unit (s := S64x26112) ![0, 256] S64x25600.size inb_S64x26112_S64x25600_0_256
/-- Column `k` of the parameter array. -/
abbrev parR (k : ℕ) (h : ∀ a, (![0, k] : Fin 2 → ℕ) a + S64x1.size a ≤ S64x6.size a) : Rect S64x6 :=
  Rect.unit (s := S64x6) ![0, k] S64x1.size h

/-- The per-channel slope of the normalization, from the two running sums and the scale. -/
def aCol (s q p0 : FVec F S64x1 .f32) : FVec F S64x1 .f32 :=
  k0_pay10 k0_pay4 (iota .tc S64x8 32 [0] iota_S64x8_d0_w32) (iota .tc S64x8 32 [1] iota_S64x8_d1_w32) k0_pay5 k0_pay6 k0_pay7 s q p0
/-- The per-channel intercept of the normalization. -/
def bCol (s q p0 p1 : FVec F S64x1 .f32) : FVec F S64x1 .f32 :=
  k0_pay11 k0_pay4 (iota .tc S64x8 32 [0] iota_S64x8_d0_w32) (iota .tc S64x8 32 [1] iota_S64x8_d1_w32) k0_pay5 k0_pay6 k0_pay7 s q p0 p1
/-- The normalized interior. -/
def norm (s q p0 p1 : FVec F S64x1 .f32) (y : FVec F S64x25600 .bf16) : FVec F S64x25600 .bf16 :=
  k0_pay1 (k0_pay12 k0_pay4 (iota .tc S64x8 32 [0] iota_S64x8_d0_w32) (iota .tc S64x8 32 [1] iota_S64x8_d1_w32) k0_pay5 k0_pay6 k0_pay7 s q p0 p1 y)
/-- Columns of the parameter array. -/
abbrev pcolP (d6 : FVec F S64x6 .f32) (k : ℕ) (h : ∀ a, (![0, k] : Fin 2 → ℕ) a + S64x1.size a ≤ S64x6.size a) : FVec F S64x1 .f32 :=
  View.ld (Val := Elt F) (e' := .f32) d6 (parR k h)
/-- The effective channel weights. -/
def wEff (s q : FVec F S64x1 .f32) (d4 : FVec F S16x64 .f32) (d5 : FVec F S64x16 .f32) (d6 : FVec F S64x6 .f32) : FVec F S64x1 .f32 :=
  k0_pay2 (aCol s q (pcolP d6 0 inb_S64x6_S64x1_0_0)) (bCol s q (pcolP d6 0 inb_S64x6_S64x1_0_0) (pcolP d6 1 inb_S64x6_S64x1_0_1)) s d4
    (View.ld d6 (Rect.unit (s := S64x6) ![0, 5] S16x1.size inb_S64x6_S16x1_0_5)) d5
    (pcolP d6 2 inb_S64x6_S64x1_0_2) (pcolP d6 3 inb_S64x6_S64x1_0_3) (pcolP d6 4 inb_S64x6_S64x1_0_4)

/-- The three loads of the stencil buffer. -/
abbrev stR (o : ℕ) (h : ∀ a, (![0, o] : Fin 2 → ℕ) a + S64x6400.size a ≤ S64x6720.size a) : Rect S64x6720 :=
  Rect.unit (s := S64x6720) ![0, o] S64x6400.size h
/-- The output block, from the stencil buffer `b`, the effective weights and the input block. -/
def outB (b : FVec F S64x6720 .bf16) (we : FVec F S64x1 .f32) (x : FVec F S1x256x6400 .f32) : FVec F S1x256x40x160 .f32 :=
  let c := View.ld b (stR 160 inb_S64x6720_S64x6400_0_160)
  let u := View.ld b (stR 0 inb_S64x6720_S64x6400_0_0)
  let d := View.ld b (stR 320 inb_S64x6720_S64x6400_0_320)
  k0_pay3 (k0_pay40 c k0_pay32 k0_pay33 (k0_pay35 c u d) (k0_pay36 u d) k0_pay37 (k0_pay38 c u d) (k0_pay39 c u d)) k0_pay41 we x

/-- `outB` from its three loads. -/
theorem outB_of (b : FVec F S64x6720 .bf16) (we : FVec F S64x1 .f32) (x : FVec F S1x256x6400 .f32) (c u d : FVec F S64x6400 .bf16)
    (hc : c = View.ld (Val := Elt F) (e' := .bf16) b (stR 160 inb_S64x6720_S64x6400_0_160))
    (hu : u = View.ld (Val := Elt F) (e' := .bf16) b (stR 0 inb_S64x6720_S64x6400_0_0))
    (hd : d = View.ld (Val := Elt F) (e' := .bf16) b (stR 320 inb_S64x6720_S64x6400_0_320)) :
    k0_pay3 (k0_pay40 c k0_pay32 k0_pay33 (k0_pay35 c u d) (k0_pay36 u d) k0_pay37 (k0_pay38 c u d) (k0_pay39 c u d)) k0_pay41 we x
      = outB b we x := by
  subst hc hu hd; rfl

/-- The stencil buffer's load, after the window was copied into it. -/
theorem readCov_copy {κ : Kind} {sp : Space} (v : View sig κ sp S64x6720 .bf16) (Y b : FVec F S64x6720 .bf16)
    (hY : Y = b) (o : ℕ) (h : ∀ a, (![0, o] : Fin 2 → ℕ) a + S64x6400.size a ≤ S64x6720.size a) :
    v.readCov [(⟨Rect.unit (s := S64x6720) ![0, 0] S64x6720.size inb_S64x6720_S64x6720_0_0,
        shapeCast S64x6720 Y shapeCasts_S64x6720_S64x6720⟩ : View.Piece (Elt F) S64x6720 .bf16)] (stR o h).toLoadRect
      = View.ld (Val := Elt F) (e' := .bf16) b (stR o h) := by
  subst hY
  rw [shapeCast_self]
  exact readCov_ld v inb_S64x6720_S64x6720_0_0 Y _

/-- Where the stencil's window starts in the row buffer at point `p` of the second axis. -/
def winO (p : ℕ) : ℕ := if p = 4 then 19296 else if p = 5 then 96 else if p = 6 then 6496 else 12896
theorem winO_inb (p : ℕ) : ∀ a, (![0, winO p] : Fin 2 → ℕ) a + S64x6720.size a ≤ S64x26112.size a := by
  have h : winO p ≤ 19296 := by unfold winO; split_ifs <;> omega
  intro a; fin_cases a
  · show 0 + 64 ≤ 64; omega
  · show winO p + 6720 ≤ 26112; omega
/-- The stencil's window at point `p`. -/
abbrev winR (p : ℕ) : Rect S64x26112 := Rect.unit (s := S64x26112) ![0, winO p] S64x6720.size (winO_inb p)

/-- A load of the stencil's window. -/
theorem win_read {κ : Kind} {sp : Space} (v : View sig κ sp S64x26112 .bf16) (g : v.ty.Contents (Elt F)) (e0 : FVec F S64x26112 .bf16)
    (k : v.read (Elt F) g = e0) (p o : ℕ) (ho : winO p = o) (inb : ∀ a, (![0, o] : Fin 2 → ℕ) a + S64x6720.size a ≤ S64x26112.size a) :
    View.readAt (Elt F) v (Rect.unit (s := S64x26112) ![0, o] S64x6720.size inb).toLoadRect g = View.ld (Val := Elt F) (e' := .bf16) e0 (winR p) := by
  subst ho; subst k; rfl

/-! ## The triples -/

/-- The body's triple at a grid point, from contents of the inputs and the scratch to contents of the scratch and a property of the output window. -/
def BodyTriple (c : Dev nD) (i : grid0.Coords) (d2 : FVec F S1x256x6400 .f32) (d3 : FVec F S64x256 .f32) (d4 : FVec F S16x64 .f32)
    (d5 : FVec F S64x16 .f32) (d6 : FVec F S64x6 .f32) (e0 : FVec F S64x26112 .bf16) (e2 e3 e4 : FVec F S64x1 .f32)
    (e0' : FVec F S64x26112 .bf16) (e2' e3' e4' : FVec F S64x1 .f32) (Q : FVec F S1x256x40x160 .f32 → Prop) : Prop :=
  ∀ (arg2 : Memref sig .tc .vmem S1x256x6400 .f32) (harg2 : arg2.IsWhole) (arg3 : Memref sig .tc .vmem S64x256 .f32) (harg3 : arg3.IsWhole)
    (arg4 : Memref sig .tc .vmem S16x64 .f32) (harg4 : arg4.IsWhole) (arg5 : Memref sig .tc .vmem S64x16 .f32) (harg5 : arg5.IsWhole)
    (arg6 : Memref sig .tc .vmem S64x6 .f32) (harg6 : arg6.IsWhole) (arg7 : Memref sig .tc .vmem S1x256x40x160 .f32) (harg7 : arg7.IsWhole)
    (K : PUnit → sProp 𝕄),
    iprop(owns (c : Thread nD τ) arg2 fullShare d2 ∗ owns (c : Thread nD τ) arg3 fullShare d3 ∗ owns (c : Thread nD τ) arg4 fullShare d4
        ∗ owns (c : Thread nD τ) arg5 fullShare d5 ∗ owns (c : Thread nD τ) arg6 fullShare d6 ∗ anyC (F := F) c arg7
        ∗ owns (c : Thread nD τ) sc0 fullShare e0 ∗ anyC (F := F) c sc1 ∗ owns (c : Thread nD τ) sc2 fullShare e2
        ∗ owns (c : Thread nD τ) sc3 fullShare e3 ∗ owns (c : Thread nD τ) sc4 fullShare e4
        ∗ (iprop(owns (c : Thread nD τ) arg2 fullShare d2 ∗ owns (c : Thread nD τ) arg3 fullShare d3 ∗ owns (c : Thread nD τ) arg4 fullShare d4
        ∗ owns (c : Thread nD τ) arg5 fullShare d5 ∗ owns (c : Thread nD τ) arg6 fullShare d6 ∗ (∃ d, ⌜Q d⌝ ∗ owns (c : Thread nD τ) arg7 fullShare d)
        ∗ owns (c : Thread nD τ) sc0 fullShare e0' ∗ anyC (F := F) c sc1 ∗ owns (c : Thread nD τ) sc2 fullShare e2'
        ∗ owns (c : Thread nD τ) sc3 fullShare e3' ∗ owns (c : Thread nD τ) sc4 fullShare e4') -∗ K ⟨⟩))
      ⊢ wp frame (wpE (defs₀ (F := F)) Variants.none c none) Set.univ
          (cc0_adrc_pe_fused i arg2 harg2 arg3 harg3 arg4 harg4 arg5 harg5 arg6 harg6 arg7 harg7 sc0 (Memref.isWhole_whole _) sc1 (Memref.isWhole_whole _)
             sc2 (Memref.isWhole_whole _) sc3 (Memref.isWhole_whole _) sc4 (Memref.isWhole_whole _)) K

variable (c : Dev nD) (i : grid0.Coords) (d2 : FVec F S1x256x6400 .f32) (d3 : FVec F S64x256 .f32) (d4 : FVec F S16x64 .f32)
    (d5 : FVec F S64x16 .f32) (d6 : FVec F S64x6 .f32) (e0 : FVec F S64x26112 .bf16) (e2 e3 e4 : FVec F S64x1 .f32)

set_option maxHeartbeats 4000000 in
/-- The first point of a sample: the first slab, both pads cleared, the sums begun. -/
theorem body_zero (hp : (i 1).val = 0) :
    BodyTriple c i d2 d3 d4 d5 d6 e0 e2 e3 e4
      (put (Rect.unit (s := S64x26112) ![0, 25856] S64x256.size inb_S64x26112_S64x256_0_25856) k0_pay22
        (put (Rect.unit (s := S64x26112) ![0, 0] S64x256.size inb_S64x26112_S64x256_0_0) k0_pay21
          (put (slabR 256 inb_S64x26112_S64x6400_0_256) (k0_pay15 d2 d3) e0))) (k0_pay23 d2 d3) (k0_pay24 d2 d3) e4 (fun _ => True) := by
  intro arg2 harg2 arg3 harg3 arg4 harg4 arg5 harg5 arg6 harg6 arg7 harg7 K
  simp only [cc0_adrc_pe_fused_eq_skeleton]; unfold cc0_adrc_pe_fused_skel
  simp only [k0_part1_eq_skeleton, k0_part2_eq_skeleton, k0_part3_eq_skeleton, k0_part4_eq_skeleton, k0_part5_eq_skeleton]
  unfold k0_part1_skel k0_part2_skel k0_part3_skel k0_part4_skel k0_part5_skel k0_cond9
  simp only [hp]
  unfold anyC owns
  iintro ⟨⟨%f2, %h2, H2⟩, ⟨%f3, %h3, H3⟩, ⟨%f4, %h4, H4⟩, ⟨%f5, %h5, H5⟩, ⟨%f6, %h6, H6⟩, ⟨%d7, %f7, -, H7⟩,
    ⟨%g0, %k0, G0⟩, ⟨%e1, %g1, -, G1⟩, ⟨%g2, %k2, G2⟩, ⟨%g3, %k3, G3⟩, ⟨%g4, %k4, G4⟩, Hk⟩
  have r2 := (View.readAt_full (Val := Elt F) arg2.view f2 inb_S1x256x6400_S1x256x6400_0_0_0).trans h2
  have r3 := (View.readAt_full (Val := Elt F) arg3.view f3 inb_S64x256_S64x256_0_0).trans h3
  have q2 := (View.readAt_full (Val := Elt F) sc2.view g2 inb_S64x1_S64x1_0_0).trans k2
  have r4 := (View.readAt_full (Val := Elt F) arg4.view f4 inb_S16x64_S16x64_0_0).trans h4
  have r5 := (View.readAt_full (Val := Elt F) arg5.view f5 inb_S64x16_S64x16_0_0).trans h5
  have r6 : ∀ k h, View.readAt (Elt F) arg6.view (parR k h).toLoadRect f6 = pcolP d6 k h := fun k h => congrArg (fun Y => View.ld (Val := Elt F) (e' := .f32) Y (parR k h)) h6
  have r65 : View.readAt (Elt F) arg6.view (Rect.unit (s := S64x6) ![0, 5] S16x1.size inb_S64x6_S16x1_0_5).toLoadRect f6 = _ :=
    congrArg (fun Y => View.ld (Val := Elt F) (e' := .f32) Y (Rect.unit (s := S64x6) ![0, 5] S16x1.size inb_S64x6_S16x1_0_5)) h6
  have r60 := r6 0 inb_S64x6_S64x1_0_0
  have r61 := r6 1 inb_S64x6_S64x1_0_1
  have r62 := r6 2 inb_S64x6_S64x1_0_2
  have r63 := r6 3 inb_S64x6_S64x1_0_3
  have r64 := r6 4 inb_S64x6_S64x1_0_4
  clear r6
  have q4 := (View.readAt_full (Val := Elt F) sc4.view g4 inb_S64x1_S64x1_0_0).trans k4
  have q3 := (View.readAt_full (Val := Elt F) sc3.view g3 inb_S64x1_S64x1_0_0).trans k3
  sl_exec (disch := decide)
  sl_step
  iapply Hk
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap
    · iexists _; isplitr; swap; · iexact H7
      ipureintro; rfl
    ipureintro; trivial
  isplitl [G0]
  · iexists _; isplitr; swap; · iexact G0
    ipureintro; exact (read_writes_put _ _ _ _ _).trans (congrArg _ ((read_writes_put _ _ _ _ _).trans (congrArg _ ((read_writes_put _ _ _ _ _).trans (congrArg _ k0)))))
  isplitl [G1]
  · iexists _, _; isplitr; swap; · iexact G1
    ipureintro; rfl
  isplitl [G2]
  · iexists _; isplitr; swap; · iexact G2
    ipureintro; exact (read_writes_put _ _ _ _ _).trans (put_whole _ _ _)
  isplitl [G3]
  · iexists _; isplitr; swap; · iexact G3
    ipureintro; exact (read_writes_put _ _ _ _ _).trans (put_whole _ _ _)
  iexists _; isplitr; swap; · iexact G4
  ipureintro; exact k4

set_option maxHeartbeats 4000000 in
/-- A middle statistics point: its slab stored, the sums advanced. -/
theorem body_one (hp : (i 1).val = 1) :
    BodyTriple c i d2 d3 d4 d5 d6 e0 e2 e3 e4
      (put (slabR 6656 inb_S64x26112_S64x6400_0_6656) (k0_pay15 d2 d3) e0) (k0_pay25 d2 d3 e2) (k0_pay26 d2 d3 e3) e4 (fun _ => True) := by
  intro arg2 harg2 arg3 harg3 arg4 harg4 arg5 harg5 arg6 harg6 arg7 harg7 K
  simp only [cc0_adrc_pe_fused_eq_skeleton]; unfold cc0_adrc_pe_fused_skel
  simp only [k0_part1_eq_skeleton, k0_part2_eq_skeleton, k0_part3_eq_skeleton, k0_part4_eq_skeleton, k0_part5_eq_skeleton]
  unfold k0_part1_skel k0_part2_skel k0_part3_skel k0_part4_skel k0_part5_skel k0_cond9
  simp only [hp]
  unfold anyC owns
  iintro ⟨⟨%f2, %h2, H2⟩, ⟨%f3, %h3, H3⟩, ⟨%f4, %h4, H4⟩, ⟨%f5, %h5, H5⟩, ⟨%f6, %h6, H6⟩, ⟨%d7, %f7, -, H7⟩,
    ⟨%g0, %k0, G0⟩, ⟨%e1, %g1, -, G1⟩, ⟨%g2, %k2, G2⟩, ⟨%g3, %k3, G3⟩, ⟨%g4, %k4, G4⟩, Hk⟩
  have r2 := (View.readAt_full (Val := Elt F) arg2.view f2 inb_S1x256x6400_S1x256x6400_0_0_0).trans h2
  have r3 := (View.readAt_full (Val := Elt F) arg3.view f3 inb_S64x256_S64x256_0_0).trans h3
  have q2 := (View.readAt_full (Val := Elt F) sc2.view g2 inb_S64x1_S64x1_0_0).trans k2
  have r4 := (View.readAt_full (Val := Elt F) arg4.view f4 inb_S16x64_S16x64_0_0).trans h4
  have r5 := (View.readAt_full (Val := Elt F) arg5.view f5 inb_S64x16_S64x16_0_0).trans h5
  have r6 : ∀ k h, View.readAt (Elt F) arg6.view (parR k h).toLoadRect f6 = pcolP d6 k h := fun k h => congrArg (fun Y => View.ld (Val := Elt F) (e' := .f32) Y (parR k h)) h6
  have r65 : View.readAt (Elt F) arg6.view (Rect.unit (s := S64x6) ![0, 5] S16x1.size inb_S64x6_S16x1_0_5).toLoadRect f6 = _ :=
    congrArg (fun Y => View.ld (Val := Elt F) (e' := .f32) Y (Rect.unit (s := S64x6) ![0, 5] S16x1.size inb_S64x6_S16x1_0_5)) h6
  have r60 := r6 0 inb_S64x6_S64x1_0_0
  have r61 := r6 1 inb_S64x6_S64x1_0_1
  have r62 := r6 2 inb_S64x6_S64x1_0_2
  have r63 := r6 3 inb_S64x6_S64x1_0_3
  have r64 := r6 4 inb_S64x6_S64x1_0_4
  clear r6
  have q4 := (View.readAt_full (Val := Elt F) sc4.view g4 inb_S64x1_S64x1_0_0).trans k4
  have q3 := (View.readAt_full (Val := Elt F) sc3.view g3 inb_S64x1_S64x1_0_0).trans k3
  sl_exec (disch := decide)
  sl_step
  iapply Hk
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap
    · iexists _; isplitr; swap; · iexact H7
      ipureintro; rfl
    ipureintro; trivial
  isplitl [G0]
  · iexists _; isplitr; swap; · iexact G0
    ipureintro; exact (read_writes_put _ _ _ _ _).trans (congrArg _ k0)
  isplitl [G1]
  · iexists _, _; isplitr; swap; · iexact G1
    ipureintro; rfl
  isplitl [G2]
  · iexists _; isplitr; swap; · iexact G2
    ipureintro; exact (read_writes_put _ _ _ _ _).trans (put_whole _ _ _)
  isplitl [G3]
  · iexists _; isplitr; swap; · iexact G3
    ipureintro; exact (read_writes_put _ _ _ _ _).trans (put_whole _ _ _)
  iexists _; isplitr; swap; · iexact G4
  ipureintro; exact k4

set_option maxHeartbeats 4000000 in
/-- A middle statistics point: its slab stored, the sums advanced. -/
theorem body_two (hp : (i 1).val = 2) :
    BodyTriple c i d2 d3 d4 d5 d6 e0 e2 e3 e4
      (put (slabR 13056 inb_S64x26112_S64x6400_0_13056) (k0_pay15 d2 d3) e0) (k0_pay25 d2 d3 e2) (k0_pay26 d2 d3 e3) e4 (fun _ => True) := by
  intro arg2 harg2 arg3 harg3 arg4 harg4 arg5 harg5 arg6 harg6 arg7 harg7 K
  simp only [cc0_adrc_pe_fused_eq_skeleton]; unfold cc0_adrc_pe_fused_skel
  simp only [k0_part1_eq_skeleton, k0_part2_eq_skeleton, k0_part3_eq_skeleton, k0_part4_eq_skeleton, k0_part5_eq_skeleton]
  unfold k0_part1_skel k0_part2_skel k0_part3_skel k0_part4_skel k0_part5_skel k0_cond9
  simp only [hp]
  unfold anyC owns
  iintro ⟨⟨%f2, %h2, H2⟩, ⟨%f3, %h3, H3⟩, ⟨%f4, %h4, H4⟩, ⟨%f5, %h5, H5⟩, ⟨%f6, %h6, H6⟩, ⟨%d7, %f7, -, H7⟩,
    ⟨%g0, %k0, G0⟩, ⟨%e1, %g1, -, G1⟩, ⟨%g2, %k2, G2⟩, ⟨%g3, %k3, G3⟩, ⟨%g4, %k4, G4⟩, Hk⟩
  have r2 := (View.readAt_full (Val := Elt F) arg2.view f2 inb_S1x256x6400_S1x256x6400_0_0_0).trans h2
  have r3 := (View.readAt_full (Val := Elt F) arg3.view f3 inb_S64x256_S64x256_0_0).trans h3
  have q2 := (View.readAt_full (Val := Elt F) sc2.view g2 inb_S64x1_S64x1_0_0).trans k2
  have r4 := (View.readAt_full (Val := Elt F) arg4.view f4 inb_S16x64_S16x64_0_0).trans h4
  have r5 := (View.readAt_full (Val := Elt F) arg5.view f5 inb_S64x16_S64x16_0_0).trans h5
  have r6 : ∀ k h, View.readAt (Elt F) arg6.view (parR k h).toLoadRect f6 = pcolP d6 k h := fun k h => congrArg (fun Y => View.ld (Val := Elt F) (e' := .f32) Y (parR k h)) h6
  have r65 : View.readAt (Elt F) arg6.view (Rect.unit (s := S64x6) ![0, 5] S16x1.size inb_S64x6_S16x1_0_5).toLoadRect f6 = _ :=
    congrArg (fun Y => View.ld (Val := Elt F) (e' := .f32) Y (Rect.unit (s := S64x6) ![0, 5] S16x1.size inb_S64x6_S16x1_0_5)) h6
  have r60 := r6 0 inb_S64x6_S64x1_0_0
  have r61 := r6 1 inb_S64x6_S64x1_0_1
  have r62 := r6 2 inb_S64x6_S64x1_0_2
  have r63 := r6 3 inb_S64x6_S64x1_0_3
  have r64 := r6 4 inb_S64x6_S64x1_0_4
  clear r6
  have q4 := (View.readAt_full (Val := Elt F) sc4.view g4 inb_S64x1_S64x1_0_0).trans k4
  have q3 := (View.readAt_full (Val := Elt F) sc3.view g3 inb_S64x1_S64x1_0_0).trans k3
  sl_exec (disch := decide)
  sl_step
  iapply Hk
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap
    · iexists _; isplitr; swap; · iexact H7
      ipureintro; rfl
    ipureintro; trivial
  isplitl [G0]
  · iexists _; isplitr; swap; · iexact G0
    ipureintro; exact (read_writes_put _ _ _ _ _).trans (congrArg _ k0)
  isplitl [G1]
  · iexists _, _; isplitr; swap; · iexact G1
    ipureintro; rfl
  isplitl [G2]
  · iexists _; isplitr; swap; · iexact G2
    ipureintro; exact (read_writes_put _ _ _ _ _).trans (put_whole _ _ _)
  isplitl [G3]
  · iexists _; isplitr; swap; · iexact G3
    ipureintro; exact (read_writes_put _ _ _ _ _).trans (put_whole _ _ _)
  iexists _; isplitr; swap; · iexact G4
  ipureintro; exact k4

set_option maxHeartbeats 4000000 in
/-- The last statistics point: the normalization applied in place and the effective weights stored. -/
theorem body_three (hp : (i 1).val = 3) :
    BodyTriple c i d2 d3 d4 d5 d6 e0 e2 e3 e4
      (put inR (norm (k0_pay25 d2 d3 e2) (k0_pay26 d2 d3 e3) (pcolP d6 0 inb_S64x6_S64x1_0_0) (pcolP d6 1 inb_S64x6_S64x1_0_1)
          (View.ld (Val := Elt F) (e' := .bf16) (put (slabR 19456 inb_S64x26112_S64x6400_0_19456) (k0_pay15 d2 d3) e0) inR)) (put (slabR 19456 inb_S64x26112_S64x6400_0_19456) (k0_pay15 d2 d3) e0))
      (k0_pay25 d2 d3 e2) (k0_pay26 d2 d3 e3) (wEff (k0_pay25 d2 d3 e2) (k0_pay26 d2 d3 e3) d4 d5 d6) (fun _ => True) := by
  intro arg2 harg2 arg3 harg3 arg4 harg4 arg5 harg5 arg6 harg6 arg7 harg7 K
  simp only [cc0_adrc_pe_fused_eq_skeleton]; unfold cc0_adrc_pe_fused_skel
  simp only [k0_part1_eq_skeleton, k0_part2_eq_skeleton, k0_part3_eq_skeleton, k0_part4_eq_skeleton, k0_part5_eq_skeleton]
  unfold k0_part1_skel k0_part2_skel k0_part3_skel k0_part4_skel k0_part5_skel k0_cond9
  simp only [hp]
  unfold anyC owns
  iintro ⟨⟨%f2, %h2, H2⟩, ⟨%f3, %h3, H3⟩, ⟨%f4, %h4, H4⟩, ⟨%f5, %h5, H5⟩, ⟨%f6, %h6, H6⟩, ⟨%d7, %f7, -, H7⟩,
    ⟨%g0, %k0, G0⟩, ⟨%e1, %g1, -, G1⟩, ⟨%g2, %k2, G2⟩, ⟨%g3, %k3, G3⟩, ⟨%g4, %k4, G4⟩, Hk⟩
  have r2 := (View.readAt_full (Val := Elt F) arg2.view f2 inb_S1x256x6400_S1x256x6400_0_0_0).trans h2
  have r3 := (View.readAt_full (Val := Elt F) arg3.view f3 inb_S64x256_S64x256_0_0).trans h3
  have q2 := (View.readAt_full (Val := Elt F) sc2.view g2 inb_S64x1_S64x1_0_0).trans k2
  have r4 := (View.readAt_full (Val := Elt F) arg4.view f4 inb_S16x64_S16x64_0_0).trans h4
  have r5 := (View.readAt_full (Val := Elt F) arg5.view f5 inb_S64x16_S64x16_0_0).trans h5
  have r6 : ∀ k h, View.readAt (Elt F) arg6.view (parR k h).toLoadRect f6 = pcolP d6 k h := fun k h => congrArg (fun Y => View.ld (Val := Elt F) (e' := .f32) Y (parR k h)) h6
  have r65 : View.readAt (Elt F) arg6.view (Rect.unit (s := S64x6) ![0, 5] S16x1.size inb_S64x6_S16x1_0_5).toLoadRect f6 = _ :=
    congrArg (fun Y => View.ld (Val := Elt F) (e' := .f32) Y (Rect.unit (s := S64x6) ![0, 5] S16x1.size inb_S64x6_S16x1_0_5)) h6
  have r60 := r6 0 inb_S64x6_S64x1_0_0
  have r61 := r6 1 inb_S64x6_S64x1_0_1
  have r62 := r6 2 inb_S64x6_S64x1_0_2
  have r63 := r6 3 inb_S64x6_S64x1_0_3
  have r64 := r6 4 inb_S64x6_S64x1_0_4
  clear r6
  have q4 := (View.readAt_full (Val := Elt F) sc4.view g4 inb_S64x1_S64x1_0_0).trans k4
  have q3 := (View.readAt_full (Val := Elt F) sc3.view g3 inb_S64x1_S64x1_0_0).trans k3
  sl_exec (disch := decide)
  sl_step
  have v96 : body_three.sl.v96 c d2 d3 e2 = k0_pay25 d2 d3 e2 := readCov_whole _ _ _
  have v98 : body_three.sl.v98 c d2 d3 e3 = k0_pay26 d2 d3 e3 := readCov_whole _ _ _
  have v118 : body_three.sl.v118 c d2 d3 g0 = View.ld (Val := Elt F) (e' := .bf16) (put (slabR 19456 inb_S64x26112_S64x6400_0_19456) (k0_pay15 d2 d3) e0) inR :=
    congrArg (fun Y => View.ld (Val := Elt F) (e' := .bf16) Y inR) ((read_writes_put _ _ _ _ _).trans (congrArg _ k0))
  iapply Hk
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap
    · iexists _; isplitr; swap; · iexact H7
      ipureintro; rfl
    ipureintro; trivial
  isplitl [G0]
  · iexists _; isplitr; swap; · iexact G0
    ipureintro; refine (read_writes_put _ _ _ _ _).trans (congrArg₂ _ ?_ ((read_writes_put _ _ _ _ _).trans (congrArg _ k0)))
    exact (congrArg k0_pay1 (congr (congr (congr (congr (congrArg (k0_pay12 k0_pay4 (iota .tc S64x8 32 [0] iota_S64x8_d0_w32) (iota .tc S64x8 32 [1] iota_S64x8_d1_w32) k0_pay5 k0_pay6 k0_pay7) v96) v98) rfl) rfl) v118))
  isplitl [G1]
  · iexists _, _; isplitr; swap; · iexact G1
    ipureintro; rfl
  isplitl [G2]
  · iexists _; isplitr; swap; · iexact G2
    ipureintro; exact (read_writes_put _ _ _ _ _).trans (put_whole _ _ _)
  isplitl [G3]
  · iexists _; isplitr; swap; · iexact G3
    ipureintro; exact (read_writes_put _ _ _ _ _).trans (put_whole _ _ _)
  iexists _; isplitr; swap; · iexact G4
  ipureintro; refine (read_writes_put _ _ _ _ _).trans ((put_whole _ _ _).trans ?_)
  unfold wEff aCol bCol
  exact congr (congr (congr (congr (congr (congr (congr (congr (congrArg k0_pay2 (congr (congr (congrArg (k0_pay10 k0_pay4 (iota .tc S64x8 32 [0] iota_S64x8_d0_w32) (iota .tc S64x8 32 [1] iota_S64x8_d1_w32) k0_pay5 k0_pay6 k0_pay7) v96) v98) rfl)) (congr (congr (congr (congrArg (k0_pay11 k0_pay4 (iota .tc S64x8 32 [0] iota_S64x8_d0_w32) (iota .tc S64x8 32 [1] iota_S64x8_d1_w32) k0_pay5 k0_pay6 k0_pay7) v96) v98) rfl) rfl)) v96) rfl) rfl) rfl) rfl) rfl) rfl

set_option maxHeartbeats 4000000 in
/-- A stencil point: only the output window and the stencil buffer change. -/
theorem body_out (p : ℕ) (hp' : (i 1).val = p) (h4 : p = 4 ∨ p = 5 ∨ p = 6 ∨ p = 7) :
    BodyTriple c i d2 d3 d4 d5 d6 e0 e2 e3 e4
      e0 e2 e3 e4 (fun d => d = outB (View.ld (Val := Elt F) (e' := .bf16) e0 (winR p)) e4 d2) := by
  rcases h4 with rfl | rfl | rfl | rfl <;> have hp := hp' <;> clear hp'
  all_goals
    intro arg2 harg2 arg3 harg3 arg4 harg4 arg5 harg5 arg6 harg6 arg7 harg7 K
    simp only [cc0_adrc_pe_fused_eq_skeleton]; unfold cc0_adrc_pe_fused_skel
    simp only [k0_part1_eq_skeleton, k0_part2_eq_skeleton, k0_part3_eq_skeleton, k0_part4_eq_skeleton, k0_part5_eq_skeleton]
    unfold k0_part1_skel k0_part2_skel k0_part3_skel k0_part4_skel k0_part5_skel k0_cond9
    simp only [hp]
    unfold anyC owns
    iintro ⟨⟨%f2, %h2, H2⟩, ⟨%f3, %h3, H3⟩, ⟨%f4, %h4, H4⟩, ⟨%f5, %h5, H5⟩, ⟨%f6, %h6, H6⟩, ⟨%d7, %f7, -, H7⟩,
      ⟨%g0, %k0, G0⟩, ⟨%e1, %g1, -, G1⟩, ⟨%g2, %k2, G2⟩, ⟨%g3, %k3, G3⟩, ⟨%g4, %k4, G4⟩, Hk⟩
    have r2 := (View.readAt_full (Val := Elt F) arg2.view f2 inb_S1x256x6400_S1x256x6400_0_0_0).trans h2
    have r3 := (View.readAt_full (Val := Elt F) arg3.view f3 inb_S64x256_S64x256_0_0).trans h3
    have q2 := (View.readAt_full (Val := Elt F) sc2.view g2 inb_S64x1_S64x1_0_0).trans k2
    have r4 := (View.readAt_full (Val := Elt F) arg4.view f4 inb_S16x64_S16x64_0_0).trans h4
    have r5 := (View.readAt_full (Val := Elt F) arg5.view f5 inb_S64x16_S64x16_0_0).trans h5
    have r6 : ∀ k h, View.readAt (Elt F) arg6.view (parR k h).toLoadRect f6 = pcolP d6 k h := fun k h => congrArg (fun Y => View.ld (Val := Elt F) (e' := .f32) Y (parR k h)) h6
    have r65 : View.readAt (Elt F) arg6.view (Rect.unit (s := S64x6) ![0, 5] S16x1.size inb_S64x6_S16x1_0_5).toLoadRect f6 = _ :=
      congrArg (fun Y => View.ld (Val := Elt F) (e' := .f32) Y (Rect.unit (s := S64x6) ![0, 5] S16x1.size inb_S64x6_S16x1_0_5)) h6
    have r60 := r6 0 inb_S64x6_S64x1_0_0
    have r61 := r6 1 inb_S64x6_S64x1_0_1
    have r62 := r6 2 inb_S64x6_S64x1_0_2
    have r63 := r6 3 inb_S64x6_S64x1_0_3
    have r64 := r6 4 inb_S64x6_S64x1_0_4
    clear r6
    have q4 := (View.readAt_full (Val := Elt F) sc4.view g4 inb_S64x1_S64x1_0_0).trans k4
    have q3 := (View.readAt_full (Val := Elt F) sc3.view g3 inb_S64x1_S64x1_0_0).trans k3
    sl_exec (disch := decide)
    sl_step
    iapply Hk
    isplitl [H2]
    · iexists _; isplitr; swap; · iexact H2
      ipureintro; exact h2
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _; isplitr; swap; · iexact H6
      ipureintro; exact h6
    isplitl [H7]
    · iexists _; isplitr; swap
      · iexists _; isplitr; swap; · iexact H7
        ipureintro; rfl
      ipureintro; refine (read_writes_put _ _ _ _ _).trans ((put_whole _ _ _).trans ?_)
      dsimp only
      refine outB_of _ _ _ _ _ _ ?_ ?_ ?_
      · refine readCov_copy sc1.view _ _ ?_ _ _
        exact win_read _ _ _ k0 _ _ (by decide) _
      · refine readCov_copy sc1.view _ _ ?_ _ _
        exact win_read _ _ _ k0 _ _ (by decide) _
      · refine readCov_copy sc1.view _ _ ?_ _ _
        exact win_read _ _ _ k0 _ _ (by decide) _
    isplitl [G0]
    · iexists _; isplitr; swap; · iexact G0
      ipureintro; exact k0
    isplitl [G1]
    · iexists _, _; isplitr; swap; · iexact G1
      ipureintro; rfl
    isplitl [G2]
    · iexists _; isplitr; swap; · iexact G2
      ipureintro; exact k2
    isplitl [G3]
    · iexists _; isplitr; swap; · iexact G3
      ipureintro; exact k3
    iexists _; isplitr; swap; · iexact G4
    ipureintro; exact k4

end Cert.KernelIdeal.Hand

end
-- ==== Proof.KITrack.lean ====
/-
  What the scratch of `KernelIdeal` holds between the points of the grid, and the launch with those contents tracked: after the run the
  output array is written, point by point of the second half of each sample, with `outT`.
-/
module

public import proofs.«01_k».proof.Proof.KIBody
public import Idealize.ShloMosaic.Lib.Pipeline.FrameBody
public import Idealize.ShloMosaic.Lib.Pipeline.ArrRel
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)
open Idealize.ShloMosaic.ValueIdx

variable {F : FTy → Type} [FloatOps F] [Named F] [∀ e, Nonempty (Elt F e)]

local notation "𝕄" => MT nD τ sig Unit (Elt F) ℕ (UR sig nD τ) ℕ

/-! ## The contents by name -/

section Pure
variable (xs : ℕ → FVec F S1x256x6400 .f32) (w : FVec F S64x256 .f32) (d4 : FVec F S16x64 .f32) (d5 : FVec F S64x16 .f32) (d6 : FVec F S64x6 .f32)

/-- The running per-channel sum after slab `k`. -/
def SM : ℕ → FVec F S64x1 .f32
  | 0 => k0_pay23 (xs 0) w
  | k + 1 => k0_pay25 (xs (k + 1)) w (SM k)
/-- The running per-channel sum of squares after slab `k`. -/
def SQ : ℕ → FVec F S64x1 .f32
  | 0 => k0_pay24 (xs 0) w
  | k + 1 => k0_pay26 (xs (k + 1)) w (SQ k)
/-- The projected rows of a sample, slab beside slab. -/
def yraw : FVec F S64x25600 .bf16 := fun y =>
  k0_pay15 (xs ((y 1).val / 6400)) w (ix2 (y 0) ⟨(y 1).val % 6400, Nat.mod_lt _ (by decide)⟩)
/-- The value stored in the pads. -/
def padV : Elt F .bf16 := (Scalar.ofBits .bf16 0x0000#16 : F .bf16)
/-- The normalized interior of a sample. -/
def ynorm : FVec F S64x25600 .bf16 :=
  norm (SM xs w 3) (SQ xs w 3) (pcolP d6 0 inb_S64x6_S64x1_0_0) (pcolP d6 1 inb_S64x6_S64x1_0_1) (yraw xs w)
/-- The row buffer once a sample is normalized. -/
def ybuf : FVec F S64x26112 .bf16 := fun y =>
  if h : 256 ≤ (y 1).val ∧ (y 1).val < 25856 then ynorm xs w d6 (ix2 (y 0) ⟨(y 1).val - 256, by have := h.2; show _ < 25600; omega⟩) else padV
/-- The effective weights of a sample. -/
def weff : FVec F S64x1 .f32 := wEff (SM xs w 3) (SQ xs w 3) d4 d5 d6

/-- The pads hold the pad value. -/
def Pads (e0 : FVec F S64x26112 .bf16) : Prop := ∀ y, (y 1).val < 256 ∨ 25856 ≤ (y 1).val → e0 y = padV
/-- Slab `k` of the row buffer holds the projection of block `k`. -/
def Slab (k : ℕ) (e0 : FVec F S64x26112 .bf16) : Prop :=
  ∀ (y : S64x26112.Idx) (z : S64x6400.Idx), (y 0).val = (z 0).val → (y 1).val = 256 + 6400 * k + (z 1).val → e0 y = k0_pay15 (xs k) w z

/-- What the scratch holds before point `p` of a sample. -/
def Inv (p : ℕ) (e0 : FVec F S64x26112 .bf16) (e2 e3 e4 : FVec F S64x1 .f32) : Prop :=
  (1 ≤ p → p ≤ 3 → Pads e0 ∧ (∀ k, k < p → Slab xs w k e0) ∧ e2 = SM xs w (p - 1) ∧ e3 = SQ xs w (p - 1))
    ∧ (4 ≤ p → e0 = ybuf xs w d6 ∧ e4 = weff xs w d4 d5 d6)

theorem pay15_congr (k : ℕ) (z z' : S64x6400.Idx) (h0 : (z 0).val = (z' 0).val) (h1 : (z 1).val = (z' 1).val) :
    k0_pay15 (xs k) w z = k0_pay15 (xs k) w z' :=
  congrArg _ (funext fun a => by fin_cases a; exacts [Fin.ext h0, Fin.ext h1])

/-- Storing slab `k` establishes it. -/
theorem slab_put (k o : ℕ) (ho : o = 256 + 6400 * k) (h) (e0 : FVec F S64x26112 .bf16) :
    Slab xs w k (put (slabR o h) (k0_pay15 (xs k) w) e0) := by
  intro y z h0 h1
  exact put_idx (slabR o h) _ e0 z y fun a => by
    fin_cases a
    · show (y 0).val = 0 + 1 * (z 0).val; omega
    · show (y 1).val = o + 1 * (z 1).val; omega

/-- Storing one slab keeps the others. -/
theorem slab_keep (k k' o : ℕ) (ho : o = 256 + 6400 * k') (hne : k ≠ k') (h) (X : FVec F S64x6400 .bf16) (e0 : FVec F S64x26112 .bf16)
    (hs : Slab xs w k e0) : Slab xs w k (put (slabR o h) X e0) := by
  intro y z h0 h1
  have hz : (z 1).val < 6400 := (z 1).isLt
  rw [put_miss (slabR o h) X e0 y 1 o 6400 rfl rfl rfl (by omega)]
  exact hs y z h0 h1

/-- Storing a slab keeps the pads. -/
theorem pads_keep (k' o : ℕ) (ho : o = 256 + 6400 * k') (hk : k' ≤ 3) (h) (X : FVec F S64x6400 .bf16) (e0 : FVec F S64x26112 .bf16)
    (hp : Pads e0) : Pads (put (slabR o h) X e0) := by
  intro y hy
  rw [put_miss (slabR o h) X e0 y 1 o 6400 rfl rfl rfl (by omega)]
  exact hp y hy

/-- The interior, read whole, is the four slabs side by side. -/
theorem ld_inR (e0 : FVec F S64x26112 .bf16) (hs : ∀ k, k < 4 → Slab xs w k e0) :
    View.ld (Val := Elt F) (e' := .bf16) e0 inR = yraw xs w := by
  funext z
  have hz : (z 1).val < 25600 := (z 1).isLt
  refine hs ((z 1).val / 6400) (by omega) _ (ix2 (z 0) ⟨(z 1).val % 6400, Nat.mod_lt _ (by decide)⟩) ?_ ?_
  · show 0 + 1 * (z 0).val = (z 0).val; omega
  · show 256 + 1 * (z 1).val = 256 + 6400 * ((z 1).val / 6400) + (z 1).val % 6400; omega

/-- Storing the normalized interior completes the row buffer. -/
theorem ybuf_of_put (e0 : FVec F S64x26112 .bf16) (hp : Pads e0) : put inR (ynorm xs w d6) e0 = ybuf xs w d6 := by
  funext y
  unfold ybuf
  split_ifs with h
  · exact put_idx inR _ e0 (ix2 (y 0) ⟨(y 1).val - 256, by have := h.2; show _ < 25600; omega⟩) y fun a => by
      fin_cases a
      · show (y 0).val = 0 + 1 * (y 0).val; omega
      · show (y 1).val = 256 + 1 * ((y 1).val - 256); omega
  · rw [put_miss inR _ e0 y 1 256 25600 rfl rfl rfl (by omega)]
    exact hp y (by omega)

theorem inv_zero (e0 : FVec F S64x26112 .bf16) (e4 : FVec F S64x1 .f32) :
    Inv xs w d4 d5 d6 1 (put (Rect.unit (s := S64x26112) ![0, 25856] S64x256.size inb_S64x26112_S64x256_0_25856) k0_pay22
        (put (Rect.unit (s := S64x26112) ![0, 0] S64x256.size inb_S64x26112_S64x256_0_0) k0_pay21
          (put (slabR 256 inb_S64x26112_S64x6400_0_256) (k0_pay15 (xs 0) w) e0))) (k0_pay23 (xs 0) w) (k0_pay24 (xs 0) w) e4 := by
  refine ⟨fun _ _ => ⟨?_, ?_, rfl, rfl⟩, fun h => absurd h (by decide)⟩
  · intro y hy
    have hlt : (y 1).val < 26112 := (y 1).isLt
    rcases hy with hy | hy
    · rw [put_miss _ _ _ y 1 25856 256 rfl rfl rfl (by omega)]
      exact put_idx _ _ _ (ix2 (y 0) ⟨(y 1).val, hy⟩ : S64x256.Idx) y fun a => by
        fin_cases a
        · show (y 0).val = 0 + 1 * (y 0).val; omega
        · show (y 1).val = 0 + 1 * (y 1).val; omega
    · exact put_idx _ _ _ (ix2 (y 0) ⟨(y 1).val - 25856, by omega⟩ : S64x256.Idx) y fun a => by
        fin_cases a
        · show (y 0).val = 0 + 1 * (y 0).val; omega
        · show (y 1).val = 25856 + 1 * ((y 1).val - 25856); omega
  · intro k hk
    obtain rfl : k = 0 := by omega
    intro y z h0 h1
    have hz : (z 1).val < 6400 := (z 1).isLt
    rw [put_miss _ _ _ y 1 25856 256 rfl rfl rfl (by omega), put_miss _ _ _ y 1 0 256 rfl rfl rfl (by omega)]
    exact slab_put xs w 0 256 rfl _ e0 y z h0 h1

theorem inv_mid (p o : ℕ) (hp : 1 ≤ p) (hp' : p ≤ 2) (ho : o = 256 + 6400 * p) (h) (e0 : FVec F S64x26112 .bf16) (e2 e3 e4 : FVec F S64x1 .f32)
    (hi : Inv xs w d4 d5 d6 p e0 e2 e3 e4) :
    Inv xs w d4 d5 d6 (p + 1) (put (slabR o h) (k0_pay15 (xs p) w) e0) (k0_pay25 (xs p) w e2) (k0_pay26 (xs p) w e3) e4 := by
  obtain ⟨hP, hS, h2, h3⟩ := hi.1 hp (by omega)
  obtain ⟨q, rfl⟩ : ∃ q, p = q + 1 := ⟨p - 1, by omega⟩
  refine ⟨fun _ _ => ⟨pads_keep _ o ho (by omega) h _ _ hP, fun k hk => ?_, ?_, ?_⟩, fun h => absurd h (by omega)⟩
  · rcases Nat.lt_succ_iff_lt_or_eq.mp hk with hk | rfl
    · exact slab_keep xs w k _ o ho (by omega) h _ _ (hS k hk)
    · exact slab_put xs w _ o ho h e0
  · rw [h2]; rfl
  · rw [h3]; rfl

theorem inv_three (e0 : FVec F S64x26112 .bf16) (e2 e3 e4 : FVec F S64x1 .f32) (hi : Inv xs w d4 d5 d6 3 e0 e2 e3 e4) :
    Inv xs w d4 d5 d6 4
      (put inR (norm (k0_pay25 (xs 3) w e2) (k0_pay26 (xs 3) w e3) (pcolP d6 0 inb_S64x6_S64x1_0_0) (pcolP d6 1 inb_S64x6_S64x1_0_1)
          (View.ld (Val := Elt F) (e' := .bf16) (put (slabR 19456 inb_S64x26112_S64x6400_0_19456) (k0_pay15 (xs 3) w) e0) inR))
        (put (slabR 19456 inb_S64x26112_S64x6400_0_19456) (k0_pay15 (xs 3) w) e0))
      (k0_pay25 (xs 3) w e2) (k0_pay26 (xs 3) w e3) (wEff (k0_pay25 (xs 3) w e2) (k0_pay26 (xs 3) w e3) d4 d5 d6) := by
  obtain ⟨hP, hS, h2, h3⟩ := hi.1 (by decide) (by decide)
  subst h2 h3
  refine ⟨fun _ h => absurd h (by decide), fun _ => ⟨?_, rfl⟩⟩
  rw [ld_inR xs w _ fun k hk => ?_]
  · exact ybuf_of_put xs w d6 _ (pads_keep 3 19456 rfl (by decide) _ _ _ hP)
  · rcases Nat.lt_succ_iff_lt_or_eq.mp hk with hk | rfl
    · exact slab_keep xs w k 3 19456 rfl (by omega) _ _ _ (hS k hk)
    · exact slab_put xs w 3 19456 rfl _ e0

theorem inv_out (p : ℕ) (hp : 4 ≤ p) (e0 : FVec F S64x26112 .bf16) (e2 e3 e4 : FVec F S64x1 .f32)
    (hi : Inv xs w d4 d5 d6 p e0 e2 e3 e4) : Inv xs w d4 d5 d6 (p + 1) e0 e2 e3 e4 :=
  ⟨fun _ h => absurd h (by omega), fun _ => hi.2 hp⟩

end Pure

end Cert.KernelIdeal.Hand

end
-- ==== Proof.KIRun.lean ====
/-
  The launch of `KernelIdeal` with the scratch tracked: what the output array is written with.
-/
module

public import proofs.«01_k».proof.Proof.KITrack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)
open Idealize.ShloMosaic.ValueIdx

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The blocks the body reads -/

theorem gridN : grid0.N = 64 := by decide
/-- Point `n` of the grid, `n` taken modulo the number of points. -/
def pt (n : ℕ) : Fin cfg0.N := ⟨n % 64, (Nat.mod_lt _ (by decide) : n % 64 < 64).trans_eq gridN.symm⟩
theorem pt_val (t : Fin cfg0.N) : pt t.val = t := Fin.ext (Nat.mod_eq_of_lt (t.isLt.trans_eq gridN))

/-- The input block of point `n`. -/
def xT (c : Dev nD) (n : ℕ) : FVec F S1x256x6400 .f32 := iblk m c 0 (pt n)
def wT (c : Dev nD) : FVec F S64x256 .f32 := iblk m c 1 (pt 0)
def w1T (c : Dev nD) : FVec F S16x64 .f32 := iblk m c 2 (pt 0)
def w2T (c : Dev nD) : FVec F S64x16 .f32 := iblk m c 3 (pt 0)
def parT (c : Dev nD) : FVec F S64x6 .f32 := iblk m c 4 (pt 0)

theorem iblk1 (c : Dev nD) (t : Fin cfg0.N) : iblk m c 1 t = wT m c := rfl
theorem iblk2 (c : Dev nD) (t : Fin cfg0.N) : iblk m c 2 t = w1T m c := rfl
theorem iblk3 (c : Dev nD) (t : Fin cfg0.N) : iblk m c 3 t = w2T m c := rfl
theorem iblk4 (c : Dev nD) (t : Fin cfg0.N) : iblk m c 4 t = parT m c := rfl

theorem coords_one : ∀ t : Fin grid0.N, (grid0.coords t 1).val = t.val % 8 := by decide +kernel

/-- The blocks of sample `b`. -/
def xsT (c : Dev nD) (b : ℕ) : ℕ → FVec F S1x256x6400 .f32 := fun k => xT m c (8 * b + k)

/-- What the output window holds after point `n` of the second half of a sample. -/
def outT (c : Dev nD) (n : ℕ) : FVec F S1x256x40x160 .f32 :=
  outB (View.ld (Val := Elt F) (e' := .bf16) (ybuf (xsT m c (n / 8)) (wT m c) (parT m c)) (winR (n % 8)))
    (weff (xsT m c (n / 8)) (wT m c) (w1T m c) (w2T m c) (parT m c)) (xT m c n)

/-- The scratch's contents before point `n`. -/
def InvT (c : Dev nD) (n : ℕ) (e0 : FVec F S64x26112 .bf16) (e2 e3 e4 : FVec F S64x1 .f32) : Prop :=
  Inv (xsT m c (n / 8)) (wT m c) (w1T m c) (w2T m c) (parT m c) (n % 8) e0 e2 e3 e4

theorem InvT_succ (c : Dev nD) (n : ℕ) (e0 : FVec F S64x26112 .bf16) (e2 e3 e4 : FVec F S64x1 .f32)
    (h : Inv (xsT m c (n / 8)) (wT m c) (w1T m c) (w2T m c) (parT m c) (n % 8 + 1) e0 e2 e3 e4) : InvT m c (n + 1) e0 e2 e3 e4 := by
  unfold InvT
  by_cases h8 : n % 8 = 7
  · rw [show (n + 1) % 8 = 0 by omega]
    exact ⟨fun h => absurd h (by decide), fun h => absurd h (by decide)⟩
  · rw [show (n + 1) / 8 = n / 8 by omega, show (n + 1) % 8 = n % 8 + 1 by omega]; exact h

/-- One point of the grid: the body runs from tracked scratch to tracked scratch, the output window left with `outT` in the second half. -/
theorem step (c : Dev nD) (t : Fin cfg0.N) (e0 : FVec F S64x26112 .bf16) (e2 e3 e4 : FVec F S64x1 .f32) (h : InvT m c t.val e0 e2 e3 e4) :
    ∃ e0' e2' e3' e4', BodyTriple c (grid0.coords t) (xT m c t.val) (wT m c) (w1T m c) (w2T m c) (parT m c) e0 e2 e3 e4 e0' e2' e3' e4'
        (fun d => 4 ≤ t.val % 8 → d = outT m c t.val) ∧ InvT m c (t.val + 1) e0' e2' e3' e4' := by
  have hi : (grid0.coords t 1).val = t.val % 8 := coords_one t
  have hx : xT m c t.val = xsT m c (t.val / 8) (t.val % 8) := by unfold xsT; rw [Nat.div_add_mod]
  have weaken : ∀ {e0' e2' e3' e4'} {Q Q' : FVec F S1x256x40x160 .f32 → Prop}, (∀ d, Q d → Q' d) →
      BodyTriple c (grid0.coords t) (xT m c t.val) (wT m c) (w1T m c) (w2T m c) (parT m c) e0 e2 e3 e4 e0' e2' e3' e4' Q →
      BodyTriple c (grid0.coords t) (xT m c t.val) (wT m c) (w1T m c) (w2T m c) (parT m c) e0 e2 e3 e4 e0' e2' e3' e4' Q' := by
    intro e0' e2' e3' e4' Q Q' hQ hB arg2 harg2 arg3 harg3 arg4 harg4 arg5 harg5 arg6 harg6 arg7 harg7 K
    refine BIBase.Entails.trans ?_ (hB arg2 harg2 arg3 harg3 arg4 harg4 arg5 harg5 arg6 harg6 arg7 harg7 K)
    iintro ⟨H2, H3, H4, H5, H6, H7, G0, G1, G2, G3, G4, Hk⟩
    isplitl [H2]; · iexact H2
    isplitl [H3]; · iexact H3
    isplitl [H4]; · iexact H4
    isplitl [H5]; · iexact H5
    isplitl [H6]; · iexact H6
    isplitl [H7]; · iexact H7
    isplitl [G0]; · iexact G0
    isplitl [G1]; · iexact G1
    isplitl [G2]; · iexact G2
    isplitl [G3]; · iexact G3
    isplitl [G4]; · iexact G4
    iintro ⟨H2, H3, H4, H5, H6, ⟨%d, %hd, H7⟩, HG⟩
    iapply Hk
    isplitl [H2]; · iexact H2
    isplitl [H3]; · iexact H3
    isplitl [H4]; · iexact H4
    isplitl [H5]; · iexact H5
    isplitl [H6]; · iexact H6
    isplitl [H7]
    · iexists d; isplitr; · ipureintro; exact hQ d hd
      iexact H7
    iexact HG
  have h8 : t.val % 8 < 8 := Nat.mod_lt _ (by decide)
  have hlow : t.val % 8 < 4 → ∀ d : FVec F S1x256x40x160 .f32, True → 4 ≤ t.val % 8 → d = outT m c t.val := fun hl d _ h4 => absurd h4 (by omega)
  unfold InvT at h
  by_cases h4 : 4 ≤ t.val % 8
  · have hout := h.2 h4
    refine ⟨_, _, _, _, weaken ?_ (body_out c _ _ _ _ _ _ e0 e2 e3 e4 (t.val % 8) hi (by omega)), InvT_succ m c _ _ _ _ _ (inv_out _ _ _ _ _ _ h4 _ _ _ _ h)⟩
    intro d hd _
    rw [hd, hout.1, hout.2]; rfl
  · have hc : t.val % 8 = 0 ∨ t.val % 8 = 1 ∨ t.val % 8 = 2 ∨ t.val % 8 = 3 := by omega
    rcases hc with hp | hp | hp | hp
    · refine ⟨_, _, _, _, weaken (hlow (by omega)) (body_zero c _ _ _ _ _ _ e0 e2 e3 e4 (hi.trans hp)), InvT_succ m c _ _ _ _ _ ?_⟩
      rw [hx, hp]; exact inv_zero _ _ _ _ _ e0 e4
    · refine ⟨_, _, _, _, weaken (hlow (by omega)) (body_one c _ _ _ _ _ _ e0 e2 e3 e4 (hi.trans hp)), InvT_succ m c _ _ _ _ _ ?_⟩
      rw [hp] at h
      rw [hx, hp]; exact inv_mid _ _ _ _ _ 1 6656 (by decide) (by decide) rfl _ e0 e2 e3 e4 h
    · refine ⟨_, _, _, _, weaken (hlow (by omega)) (body_two c _ _ _ _ _ _ e0 e2 e3 e4 (hi.trans hp)), InvT_succ m c _ _ _ _ _ ?_⟩
      rw [hp] at h
      rw [hx, hp]; exact inv_mid _ _ _ _ _ 2 13056 (by decide) (by decide) rfl _ e0 e2 e3 e4 h
    · refine ⟨_, _, _, _, weaken (hlow (by omega)) (body_three c _ _ _ _ _ _ e0 e2 e3 e4 (hi.trans hp)), InvT_succ m c _ _ _ _ _ ?_⟩
      rw [hp] at h
      rw [hx, hp]; exact inv_three _ _ _ _ _ e0 e2 e3 e4 h

/-! ## The proof data -/

/-- The scratch tracked before point `n`. -/
def PhiT (c : Dev nD) (n : ℕ) : sProp 𝕄 :=
  iprop(((∃ e0 e2 e3 e4, ⌜InvT m c n e0 e2 e3 e4⌝ ∗ owns (c : Thread nD τ) sc0 fullShare e0 ∗ anyC (F := F) c sc1 ∗ owns (c : Thread nD τ) sc2 fullShare e2
      ∗ owns (c : Thread nD τ) sc3 fullShare e3 ∗ owns (c : Thread nD τ) sc4 fullShare e4)) ∗ (∃ r, prngReg c r))

/-- The relational proof data: the input windows kept, the output window left with `outT` at the second half of each sample. -/
def rdatT (c : Dev nD) : RDat τ (Elt F) Unit ℕ (UR sig nD τ) ℕ cfg0 c where
  A w := V m c (Pipeline.arrRef spec0 w)
  after w t Y X := (w ≠ 5 → X = Y) ∧ (w = 5 → 4 ≤ t.val % 8 → HEq X (outT m c t.val))
  Φ t := PhiT m c t.val
  q _ := fullShare
  owed _ := 0

theorem PhiA_to (c : Dev nD) : (Pipeline.ΦA spec0 c : sProp 𝕄) ⊢ (rdatT m c).Φ 0 := by
  rw [PhiA_eq]
  show _ ⊢ PhiT m c 0
  unfold PhiT
  iintro ⟨⟨⟨%e0, G0⟩, G1, ⟨%e2, G2⟩, ⟨%e3, G3⟩, ⟨%e4, G4⟩⟩, Hg⟩
  isplitr [Hg]
  · iexists e0, e2, e3, e4
    isplitr
    · ipureintro; exact ⟨fun h => absurd h (by decide), fun h => absurd h (by decide)⟩
    isplitl [G0]; · iexact G0
    isplitl [G1]; · iexact G1
    isplitl [G2]; · iexact G2
    isplitl [G3]; · iexact G3
    iexact G4
  · iexact Hg

theorem PhiA_from (c : Dev nD) : (rdatT m c).Φ (Fin.last cfg0.N) ⊢ (Pipeline.ΦA spec0 c : sProp 𝕄) := by
  rw [PhiA_eq]
  show PhiT m c _ ⊢ _
  unfold PhiT
  iintro ⟨⟨%e0, %e2, %e3, %e4, -, G0, G1, G2, G3, G4⟩, Hg⟩
  isplitr [Hg]
  · isplitl [G0]; · iexists _; iexact G0
    isplitl [G1]; · iexact G1
    isplitl [G2]; · iexists _; iexact G2
    isplitl [G3]; · iexists _; iexact G3
    iexists _; iexact G4
  · iexact Hg

/-- Input window 0's staging buffer holds its block at every point. -/
theorem finds0 (c : Dev nD) (t : Fin cfg0.N) (Y) (hY : (rdatT m c).Finds 0 t Y) : Y = iblk m c 0 t := by
  obtain ⟨d, hd⟩ := RDat.finds_in_eq_fetched (rdatT m c) 0 rfl (fun _ _ _ => rfl) (fun t Y X h => h.1 (by decide)) t Y hY
  exact hd.trans (by unfold RDat.fetched RDat.blockOf iblk; rfl)
/-- … window 1's … -/
theorem finds1 (c : Dev nD) (t : Fin cfg0.N) (Y) (hY : (rdatT m c).Finds 1 t Y) : Y = iblk m c 1 t := by
  obtain ⟨d, hd⟩ := RDat.finds_in_eq_fetched (rdatT m c) 1 rfl (fun _ _ _ => rfl) (fun t Y X h => h.1 (by decide)) t Y hY
  exact hd.trans (by unfold RDat.fetched RDat.blockOf iblk; rfl)
/-- … window 2's … -/
theorem finds2 (c : Dev nD) (t : Fin cfg0.N) (Y) (hY : (rdatT m c).Finds 2 t Y) : Y = iblk m c 2 t := by
  obtain ⟨d, hd⟩ := RDat.finds_in_eq_fetched (rdatT m c) 2 rfl (fun _ _ _ => rfl) (fun t Y X h => h.1 (by decide)) t Y hY
  exact hd.trans (by unfold RDat.fetched RDat.blockOf iblk; rfl)
/-- … window 3's … -/
theorem finds3 (c : Dev nD) (t : Fin cfg0.N) (Y) (hY : (rdatT m c).Finds 3 t Y) : Y = iblk m c 3 t := by
  obtain ⟨d, hd⟩ := RDat.finds_in_eq_fetched (rdatT m c) 3 rfl (fun _ _ _ => rfl) (fun t Y X h => h.1 (by decide)) t Y hY
  exact hd.trans (by unfold RDat.fetched RDat.blockOf iblk; rfl)
/-- … window 4's. -/
theorem finds4 (c : Dev nD) (t : Fin cfg0.N) (Y) (hY : (rdatT m c).Finds 4 t Y) : Y = iblk m c 4 t := by
  obtain ⟨d, hd⟩ := RDat.finds_in_eq_fetched (rdatT m c) 4 rfl (fun _ _ _ => rfl) (fun t Y X h => h.1 (by decide)) t Y hY
  exact hd.trans (by unfold RDat.fetched RDat.blockOf iblk; rfl)

/-- The body obligation: `step` at the staging memrefs the pipeline passes. -/
theorem body_obligationT (c : Dev nD) : (rdatT (F := F) m c).BodyObligation (defs₀ (F := F)) Variants.none () Set.univ := by
  intro t Y hY
  rw [bigSep_W0, bigSep_W0, defs₀_row]
  unfold bodyAt0
  have h0 : Y 0 = xT m c t.val := (finds0 m c t _ (hY 0)).trans (by unfold xT; rw [pt_val])
  have h1 : Y 1 = wT m c := (finds1 m c t _ (hY 1)).trans (iblk1 m c t)
  have h2 : Y 2 = w1T m c := (finds2 m c t _ (hY 2)).trans (iblk2 m c t)
  have h3 : Y 3 = w2T m c := (finds3 m c t _ (hY 3)).trans (iblk3 m c t)
  have h4 : Y 4 = parT m c := (finds4 m c t _ (hY 4)).trans (iblk4 m c t)
  rw [h0, h1, h2, h3, h4]
  rw [show (rdatT (F := F) m c).Φ t.succ = PhiT m c (t.val + 1) from rfl,
    show (rdatT (F := F) m c).Φ t.castSucc = PhiT m c t.val from rfl]
  unfold PhiT
  iintro ⟨⟨⟨%e0, %e2, %e3, %e4, %hI, G0, G1, G2, G3, G4⟩, Hg⟩, HO, H2, H3, H4, H5, H6, H7⟩
  obtain ⟨e0', e2', e3', e4', hB, hI'⟩ := step m c t e0 e2 e3 e4 hI
  iapply (hB _ _ _ _ _ _ _ _ _ _ _ _ _)
  isplitl [H2]; · iexact H2
  isplitl [H3]; · iexact H3
  isplitl [H4]; · iexact H4
  isplitl [H5]; · iexact H5
  isplitl [H6]; · iexact H6
  isplitl [H7]; · iexists _; iexact H7
  isplitl [G0]; · iexact G0
  isplitl [G1]; · iexact G1
  isplitl [G2]; · iexact G2
  isplitl [G3]; · iexact G3
  isplitl [G4]; · iexact G4
  iintro ⟨H2, H3, H4, H5, H6, ⟨%d, %hd, H7⟩, G0, G1, G2, G3, G4⟩
  isplitl [Hg G0 G1 G2 G3 G4]
  · isplitr [Hg]
    · iexists e0', e2', e3', e4'
      isplitr; · ipureintro; exact hI'
      isplitl [G0]; · iexact G0
      isplitl [G1]; · iexact G1
      isplitl [G2]; · iexact G2
      isplitl [G3]; · iexact G3
      iexact G4
    · iexact Hg
  isplitl [HO]; · iexact HO
  isplitl [H2]
  · iexists _; isplitr; swap; · iexact H2
    ipureintro; exact ⟨fun _ => rfl, fun h => absurd h (by decide)⟩
  isplitl [H3]
  · iexists _; isplitr; swap; · iexact H3
    ipureintro; exact ⟨fun _ => rfl, fun h => absurd h (by decide)⟩
  isplitl [H4]
  · iexists _; isplitr; swap; · iexact H4
    ipureintro; exact ⟨fun _ => rfl, fun h => absurd h (by decide)⟩
  isplitl [H5]
  · iexists _; isplitr; swap; · iexact H5
    ipureintro; exact ⟨fun _ => rfl, fun h => absurd h (by decide)⟩
  isplitl [H6]
  · iexists _; isplitr; swap; · iexact H6
    ipureintro; exact ⟨fun _ => rfl, fun h => absurd h (by decide)⟩
  iexists _; isplitr; swap; · iexact H7
  ipureintro; exact ⟨fun h => absurd rfl h, fun _ h => heq_of_eq (hd h)⟩

set_option backward.isDefEq.respectTransparency.types false in
/-- Every weakly fair execution of @main terminates with the arrays as the tracked proof data say and every counter at zero. -/
theorem run_mainT :
    θ_run defs (onTc (τ := τ) (main (F := F))) (s₀ m ρ)
      (fun r => Pipeline.RDat.FramePost (cfgs 0) (rdatT m) (V m) r ∧ r.2.sem = fun _ => 0) :=
  Pipeline.RDat.θ_run_frame_track (Q' := _) cfgs (0 : Fin 1) launch0 defs₀ Variants.none (rdatT m) m ρ main
    (hbody := body_obligationT m) (hshare := fun c w => (rdatT m c).share_full (fun _ => rfl) w)
    (howed := fun _ _ => rfl) (V := V m) (hmain := hmain m Variants.none) (hA := fun _ _ => rfl)
    (hin := PhiA_to m) (hout := PhiA_from m)

end Cert.KernelIdeal.Hand

end
-- ==== Proof.KIOut.lean ====
/-
  The result array of `KernelIdeal` after the run, element by element.
-/
module

public import proofs.«01_k».proof.Proof.KIRun
public import Idealize.ShloMosaic.Lib.Pipeline.ValueKit
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat RDat Cfg Window BodyObligation)
open Idealize.ShloMosaic.ValueIdx
variable {F : FTy → Type} [FloatOps F] [Named F] [∀ e, Nonempty (Elt F e)]
variable (m : (ℓ : Loc nD τ sig) → Buf (Elt F) ℓ) (ρ : Dev nD → PrngReg)

theorem flush_high : ∀ t : Fin grid0.N, (cfg0.win 5).flush t = true → 4 ≤ t.val % 8 := by decide +kernel

/-- The result array. -/
def outG (c : Dev nD) : FVec F S8x256x160x160 .f32 := fun i =>
  outT m c (8 * (i 0).val + 4 + ((i 2).val / 40 + 1) % 4) (ValueIdx.ix4 0 (i 1) ⟨(i 2).val % 40, Nat.mod_lt _ (by decide)⟩ (i 3))

theorem oidx : ∀ t : Fin grid0.N, 4 ≤ t.val % 8 → ∀ q : Fin 40,
   8 * (t.val / 8) + 4 + (((win0_5.index t 2) * 40 + q.val) / 40 + 1) % 4 = t.val ∧ ((win0_5.index t 2) * 40 + q.val) % 40 = q.val ∧ win0_5.index t 0 = t.val / 8 ∧ win0_5.index t 1 = 0 ∧ win0_5.index t 3 = 0 := by decide +kernel

theorem run_out :
    θ_run defs (onTc (τ := τ) (main (F := F))) (s₀ m ρ) (fun r => ∀ c : Dev nD,
      r.2.mem ((c.tc : Thread nD τ).loc main_v15) = outG m c) :=
  (θ_run defs _ _).mono (fun r h c => by
    obtain ⟨after, hL, hA⟩ := h.1.exists_exact c
    refine (hA 5).trans (Dat.arrAt_eq_of_covers (cfg := cfg0) ((rdatT m c).withAfter after) 5 (outG m c) (by decide +kernel) fun t ht y => ?_)
    obtain ⟨Y, -, hY⟩ := hL 5 t ht
    have hX := eq_of_heq (hY.2 rfl (flush_high t ht))
    have h5 : ((rdatT m c).withAfter after).after 5 t = after 5 t := rfl
    rw [h5, hX]
    unfold outG
    blk_simp
    obtain ⟨o1, o2, o3, o4, o5⟩ := oidx t (flush_high t ht) (y 2)
    refine congr (congrArg (outT m c) ?_) (funext fun a => ?_)
    · rw [o3]; exact o1.symm
    · fin_cases a
      · exact Fin.ext (Nat.lt_one_iff.mp (y 0).isLt)
      · refine Fin.ext ?_
        show (y 1).val = ((win0_5.blk t).view.emb y 1).val
        blk_simp
        rw [o4]; omega
      · exact Fin.ext o2.symm
      · refine Fin.ext ?_
        show (y 3).val = ((win0_5.blk t).view.emb y 3).val
        blk_simp
        rw [o5]; omega) (run_mainT m ρ)
end Cert.KernelIdeal.Hand
end
-- ==== Proof.KIArgs.lean ====
/-
  The input blocks of `KernelIdeal` read off the arguments, element by element.
-/
module

public import proofs.«01_k».proof.Proof.KIOut
public import Idealize.ShloMosaic.Lib.Claim
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat RDat Cfg Window BodyObligation)

variable {F : FTy → Type} [FloatOps F] [Named F] [∀ e, Nonempty (Elt F e)]
variable (m : (ℓ : Loc nD τ sig) → Buf (Elt F) ℓ) (ρ : Dev nD → PrngReg)

/-- The slab that point `p` of a sample reads. -/
def slabOf (p : ℕ) : ℕ := if p < 4 then p else (p + 3) % 4

theorem slabOf_lt (p : ℕ) (hp : p < 8) : slabOf p < 4 := by unfold slabOf; split <;> omega

theorem xidx : ∀ t : Fin grid0.N, win0_0.index t 0 = t.val / 8 ∧ win0_0.index t 1 = 0 ∧ win0_0.index t 2 = slabOf (t.val % 8) := by decide +kernel

theorem V_main_v0 (c : Dev nD) : V m c main_v0 = shapeCast S8x256x25600 (m ((c.tc : Thread nD τ).loc main_arg0) : FVec F S8x256x160x160 .f32) shapeCasts_S8x256x160x160_S8x256x25600 := by
  unfold V
  simp only [hostOps0, hostOps0_1, hostOps0_2, List.flatten_cons, List.flatten_nil, List.append_nil, List.cons_append, List.nil_append]
  simp only [StableHlo.after_cons, StableHlo.after_nil]
  after_results_simp
  rfl

theorem V_main_v1 (c : Dev nD) : V m c main_v1 = shapeCast S64x256 (m ((c.tc : Thread nD τ).loc main_arg1) : FVec F S64x256x1x1 .f32) shapeCasts_S64x256x1x1_S64x256 := by
  unfold V
  simp only [hostOps0, hostOps0_1, hostOps0_2, List.flatten_cons, List.flatten_nil, List.append_nil, List.cons_append, List.nil_append]
  simp only [StableHlo.after_cons, StableHlo.after_nil]
  after_results_simp
  rfl

theorem V_main_v2 (c : Dev nD) : V m c main_v2 = shapeCast S16x64 (m ((c.tc : Thread nD τ).loc main_arg4) : FVec F S16x64x1x1 .f32) shapeCasts_S16x64x1x1_S16x64 := by
  unfold V
  simp only [hostOps0, hostOps0_1, hostOps0_2, List.flatten_cons, List.flatten_nil, List.append_nil, List.cons_append, List.nil_append]
  simp only [StableHlo.after_cons, StableHlo.after_nil]
  after_results_simp
  rfl

theorem V_main_v3 (c : Dev nD) : V m c main_v3 = shapeCast S64x16 (m ((c.tc : Thread nD τ).loc main_arg6) : FVec F S64x16x1x1 .f32) shapeCasts_S64x16x1x1_S64x16 := by
  unfold V
  simp only [hostOps0, hostOps0_1, hostOps0_2, List.flatten_cons, List.flatten_nil, List.append_nil, List.cons_append, List.nil_append]
  simp only [StableHlo.after_cons, StableHlo.after_nil]
  after_results_simp
  rfl

theorem V_main_v14 (c : Dev nD) : V m c main_v14 = concatenate S64x6 1 [⟨S64x1, broadcastInDim S64x1 ![0] bcast_S64_S64x1_0 (m ((c.tc : Thread nD τ).loc main_arg2) : FVec F S64 .f32)⟩,
      ⟨S64x1, broadcastInDim S64x1 ![0] bcast_S64_S64x1_0 (m ((c.tc : Thread nD τ).loc main_arg3) : FVec F S64 .f32)⟩,
      ⟨S64x1, broadcastInDim S64x1 ![0] bcast_S64_S64x1_0 (m ((c.tc : Thread nD τ).loc main_arg7) : FVec F S64 .f32)⟩,
      ⟨S64x1, broadcastInDim S64x1 ![0] bcast_S64_S64x1_0 (extractStridedSlice S64 ![0] (shapeCast S128 (m ((c.tc : Thread nD τ).loc main_arg8) : FVec F S1x128x1x1 .f32) shapeCasts_S1x128x1x1_S128) slices_S128_S64_0)⟩,
      ⟨S64x1, broadcastInDim S64x1 ![0] bcast_S64_S64x1_0 (extractStridedSlice S64 ![64] (shapeCast S128 (m ((c.tc : Thread nD τ).loc main_arg8) : FVec F S1x128x1x1 .f32) shapeCasts_S1x128x1x1_S128) slices_S128_S64_64)⟩,
      ⟨S64x1, broadcastInDim S64x1 ![0] bcast_S64_S64x1_0 (pad S64 ![0] ![48] ![0] (m ((c.tc : Thread nD τ).loc main_arg5) : FVec F S16 .f32) (sitofp .f32 (constantI S_ 32 0#32)) pads_S16_S64_0480 h_S_)⟩]
    concatenates_S64x1_S64x1_S64x1_S64x1_S64x1_S64x1_S64x6_d1 := by
  unfold V
  simp only [hostOps0, hostOps0_1, hostOps0_2, List.flatten_cons, List.flatten_nil, List.append_nil, List.cons_append, List.nil_append]
  simp only [StableHlo.after_cons, StableHlo.after_nil]
  after_results_simp
  rfl

/-- A window whose block is its whole array reads the array itself. -/
theorem w_emb (x : S64x256.Idx) : ((win0_1.blk (pt 0)).view.emb x) = x := by
  have e0 : win0_1.index (pt 0) 0 = 0 := by decide +kernel
  have e1 : win0_1.index (pt 0) 1 = 0 := by decide +kernel
  refine funext fun a => Fin.ext ?_
  match a with
  | ⟨0, _⟩ => show win0_1.index (pt 0) 0 * _ + 1 * (x 0).val = (x 0).val; rw [e0, Nat.zero_mul, Nat.zero_add, Nat.one_mul]
  | ⟨1, _⟩ => show win0_1.index (pt 0) 1 * _ + 1 * (x 1).val = (x 1).val; rw [e1, Nat.zero_mul, Nat.zero_add, Nat.one_mul]

/-- A window whose block is its whole array reads the array itself. -/
theorem w1_emb (x : S16x64.Idx) : ((win0_2.blk (pt 0)).view.emb x) = x := by
  have e0 : win0_2.index (pt 0) 0 = 0 := by decide +kernel
  have e1 : win0_2.index (pt 0) 1 = 0 := by decide +kernel
  refine funext fun a => Fin.ext ?_
  match a with
  | ⟨0, _⟩ => show win0_2.index (pt 0) 0 * _ + 1 * (x 0).val = (x 0).val; rw [e0, Nat.zero_mul, Nat.zero_add, Nat.one_mul]
  | ⟨1, _⟩ => show win0_2.index (pt 0) 1 * _ + 1 * (x 1).val = (x 1).val; rw [e1, Nat.zero_mul, Nat.zero_add, Nat.one_mul]

/-- A window whose block is its whole array reads the array itself. -/
theorem w2_emb (x : S64x16.Idx) : ((win0_3.blk (pt 0)).view.emb x) = x := by
  have e0 : win0_3.index (pt 0) 0 = 0 := by decide +kernel
  have e1 : win0_3.index (pt 0) 1 = 0 := by decide +kernel
  refine funext fun a => Fin.ext ?_
  match a with
  | ⟨0, _⟩ => show win0_3.index (pt 0) 0 * _ + 1 * (x 0).val = (x 0).val; rw [e0, Nat.zero_mul, Nat.zero_add, Nat.one_mul]
  | ⟨1, _⟩ => show win0_3.index (pt 0) 1 * _ + 1 * (x 1).val = (x 1).val; rw [e1, Nat.zero_mul, Nat.zero_add, Nat.one_mul]

/-- A window whose block is its whole array reads the array itself. -/
theorem par_emb (x : S64x6.Idx) : ((win0_4.blk (pt 0)).view.emb x) = x := by
  have e0 : win0_4.index (pt 0) 0 = 0 := by decide +kernel
  have e1 : win0_4.index (pt 0) 1 = 0 := by decide +kernel
  refine funext fun a => Fin.ext ?_
  match a with
  | ⟨0, _⟩ => show win0_4.index (pt 0) 0 * _ + 1 * (x 0).val = (x 0).val; rw [e0, Nat.zero_mul, Nat.zero_add, Nat.one_mul]
  | ⟨1, _⟩ => show win0_4.index (pt 0) 1 * _ + 1 * (x 1).val = (x 1).val; rw [e1, Nat.zero_mul, Nat.zero_add, Nat.one_mul]

theorem wT_apply (c : Dev nD) (o : Fin 64) (ch : Fin 256) :
    wT m c (ValueIdx.ix2 o ch) = (m ((c.tc : Thread nD τ).loc main_arg1) : FVec F S64x256x1x1 .f32) (ValueIdx.ix4 o ch 0 0) := by
  unfold wT
  blk_simp [iblk]
  rw [show ((win0_1.blk (pt 0)).view.emb _) = _ from w_emb _, V_main_v1]
  pointwise
  rfl

theorem w1T_apply (c : Dev nD) (o : Fin 16) (ch : Fin 64) :
    w1T m c (ValueIdx.ix2 o ch) = (m ((c.tc : Thread nD τ).loc main_arg4) : FVec F S16x64x1x1 .f32) (ValueIdx.ix4 o ch 0 0) := by
  unfold w1T
  blk_simp [iblk]
  rw [show ((win0_2.blk (pt 0)).view.emb _) = _ from w1_emb _, V_main_v2]
  pointwise
  rfl

theorem w2T_apply (c : Dev nD) (o : Fin 64) (ch : Fin 16) :
    w2T m c (ValueIdx.ix2 o ch) = (m ((c.tc : Thread nD τ).loc main_arg6) : FVec F S64x16x1x1 .f32) (ValueIdx.ix4 o ch 0 0) := by
  unfold w2T
  blk_simp [iblk]
  rw [show ((win0_3.blk (pt 0)).view.emb _) = _ from w2_emb _, V_main_v3]
  pointwise
  rfl

theorem par0_apply (c : Dev nD) (o : Fin 64) :
    parT m c (ValueIdx.ix2 o 0) = (m ((c.tc : Thread nD τ).loc main_arg2) : FVec F S64 .f32) (ValueIdx.ix1 o) := by
  unfold parT
  blk_simp [iblk]
  rw [show ((win0_4.blk (pt 0)).view.emb _) = _ from par_emb _, V_main_v14]
  pointwise
  rfl

theorem par1_apply (c : Dev nD) (o : Fin 64) :
    parT m c (ValueIdx.ix2 o 1) = (m ((c.tc : Thread nD τ).loc main_arg3) : FVec F S64 .f32) (ValueIdx.ix1 o) := by
  unfold parT
  blk_simp [iblk]
  rw [show ((win0_4.blk (pt 0)).view.emb _) = _ from par_emb _, V_main_v14]
  pointwise
  rfl

theorem par2_apply (c : Dev nD) (o : Fin 64) :
    parT m c (ValueIdx.ix2 o 2) = (m ((c.tc : Thread nD τ).loc main_arg7) : FVec F S64 .f32) (ValueIdx.ix1 o) := by
  unfold parT
  blk_simp [iblk]
  rw [show ((win0_4.blk (pt 0)).view.emb _) = _ from par_emb _, V_main_v14]
  pointwise
  rfl

theorem par3_apply (c : Dev nD) (o : Fin 64) :
    parT m c (ValueIdx.ix2 o 3) = (m ((c.tc : Thread nD τ).loc main_arg8) : FVec F S1x128x1x1 .f32) (ValueIdx.ix4 0 ⟨o.val, by omega⟩ 0 0) := by
  unfold parT
  blk_simp [iblk]
  rw [show ((win0_4.blk (pt 0)).view.emb _) = _ from par_emb _, V_main_v14]
  pointwise
  rfl

theorem par4_apply (c : Dev nD) (o : Fin 64) :
    parT m c (ValueIdx.ix2 o 4) = (m ((c.tc : Thread nD τ).loc main_arg8) : FVec F S1x128x1x1 .f32) (ValueIdx.ix4 0 ⟨64 + o.val, by omega⟩ 0 0) := by
  unfold parT
  blk_simp [iblk]
  rw [show ((win0_4.blk (pt 0)).view.emb _) = _ from par_emb _, V_main_v14]
  pointwise
  rfl

theorem par5_apply (c : Dev nD) (o : Fin 16) :
    parT m c (ValueIdx.ix2 ⟨o.val, by omega⟩ 5) = (m ((c.tc : Thread nD τ).loc main_arg5) : FVec F S16 .f32) (ValueIdx.ix1 o) := by
  unfold parT
  blk_simp [iblk]
  rw [show ((win0_4.blk (pt 0)).view.emb _) = _ from par_emb _, V_main_v14]
  pointwise
  exact dif_pos (fun a => by match a with | ⟨0, _⟩ => exact o.isLt)

theorem xT_apply (c : Dev nD) (n : ℕ) (hn : n < 64) (ch : Fin 256) (k : Fin 6400) :
    xT m c n (ValueIdx.ix3 0 ch k) = (m ((c.tc : Thread nD τ).loc main_arg0) : FVec F S8x256x160x160 .f32) (ValueIdx.ix4 ⟨n / 8, by omega⟩ ch
      ⟨(slabOf (n % 8) * 6400 + k.val) / 160, by have := slabOf_lt (n % 8) (by omega); omega⟩ ⟨(slabOf (n % 8) * 6400 + k.val) % 160, by omega⟩) := by
  unfold xT
  blk_simp [iblk]
  rw [V_main_v0]
  pointwise
  blk_ext [xidx (pt n), show (pt n).val = n from Nat.mod_eq_of_lt hn]
  all_goals rfl

end Cert.KernelIdeal.Hand

end
-- ==== Proof.KIPay.lean ====
/-
  The values the body of `KernelIdeal` computes, element by element, at the extended reals.
-/
module

public import proofs.«01_k».proof.Proof.KIArgs
public import proofs.«01_k».proof.Proof.SpecOut
public import Idealize.ShloMosaic.Lib.Claim
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.Sem

/-! ## Constants -/

theorem n_val : Ideal.ofBits .f32 1212678144#32 = ((204800 : ℝ) : EReal) := by
  simp [Ideal.ofBits, Ideal.ieee, -EReal.coe_mul]; norm_num
theorem hw_val : Ideal.ofBits .f32 1187512320#32 = ((25600 : ℝ) : EReal) := by
  simp [Ideal.ofBits, Ideal.ieee, -EReal.coe_mul]; norm_num
theorem nine_val : Ideal.ofBits .bf16 16656#16 = ((9 : ℝ) : EReal) := by
  simp [Ideal.ofBits, Ideal.ieee, -EReal.coe_mul]; norm_num
theorem two_val : Ideal.ofBits .bf16 16384#16 = ((2 : ℝ) : EReal) := by
  simp [Ideal.ofBits, Ideal.ieee, -EReal.coe_mul]; norm_num
theorem eps4_val : Named.named (F := Ideal) (φ := .bf16) κ "eps4" 14802#16 = (Spec.e4 : EReal) := rfl
theorem ninths_val : Named.named (F := Ideal) (φ := .bf16) κ "four_ninths" 16100#16 = ((4 / 9 : ℝ) : EReal) := rfl

/-! ## The projection and its sums -/

theorem pay13_apply (x : FVec Ideal S1x256x6400 .f32) (w : FVec Ideal S64x256 .f32) (o : Fin 64) (q : Fin 6400) :
    k0_pay13 (F := Ideal) x w (ValueIdx.ix2 o q) = ∑ ch : Fin 256, w (ValueIdx.ix2 o ch) * x (ValueIdx.ix3 0 ch q) := by
  pointwise [k0_pay13]
  rfl
theorem pay15_apply (x : FVec Ideal S1x256x6400 .f32) (w : FVec Ideal S64x256 .f32) (o : Fin 64) (q : Fin 6400) :
    k0_pay15 (F := Ideal) x w (ValueIdx.ix2 o q) = k0_pay13 (F := Ideal) x w (ValueIdx.ix2 o q) := by
  pointwise [k0_pay15, k0_pay14]
theorem pay19_apply (x : FVec Ideal S1x256x6400 .f32) (w : FVec Ideal S64x256 .f32) (o : Fin 64) :
    k0_pay19 (F := Ideal) x w (ValueIdx.ix2 o 0) = ∑ q : Fin 6400, k0_pay13 (F := Ideal) x w (ValueIdx.ix2 o q) := by
  pointwise [k0_pay19]
  rfl
theorem pay20_apply (x : FVec Ideal S1x256x6400 .f32) (w : FVec Ideal S64x256 .f32) (o : Fin 64) :
    k0_pay20 (F := Ideal) x w (ValueIdx.ix2 o 0) = ∑ q : Fin 6400, k0_pay13 (F := Ideal) x w (ValueIdx.ix2 o q) * k0_pay13 (F := Ideal) x w (ValueIdx.ix2 o q) := by
  pointwise [k0_pay20]
  rfl
/-- The sum over the four slabs. -/
theorem SM_apply (xs : ℕ → FVec Ideal S1x256x6400 .f32) (w : FVec Ideal S64x256 .f32) (o : Fin 64) :
    SM xs w 3 (ValueIdx.ix2 o 0) = ∑ k : Fin 4, ∑ q : Fin 6400, k0_pay13 (F := Ideal) (xs k) w (ValueIdx.ix2 o q) := by
  simp only [SM, Fin.sum_univ_four]
  pointwise [k0_pay23, k0_pay25]
  simp only [← pay19_apply]
/-- The sum of the squares over the four slabs. -/
theorem SQ_apply (xs : ℕ → FVec Ideal S1x256x6400 .f32) (w : FVec Ideal S64x256 .f32) (o : Fin 64) :
    SQ xs w 3 (ValueIdx.ix2 o 0) = ∑ k : Fin 4, ∑ q : Fin 6400, k0_pay13 (F := Ideal) (xs k) w (ValueIdx.ix2 o q) * k0_pay13 (F := Ideal) (xs k) w (ValueIdx.ix2 o q) := by
  simp only [SQ, Fin.sum_univ_four]
  pointwise [k0_pay24, k0_pay26]
  simp only [← pay20_apply]

/-! ## The groups -/

theorem sito_ite (p : Prop) [Decidable p] : FloatOps.sitofp (F := Ideal) FTy.f32 (if p then 1#32 else 0#32) = if p then (1 : EReal) else 0 := by
  split_ifs
  · show (((1#32).toInt : ℝ) : EReal) = 1
    norm_num
  · show (((0#32).toInt : ℝ) : EReal) = 0
    norm_num

/-- The matrix that sums the channels of a group. -/
theorem pay4_apply (g : Fin 8) (o : Fin 64) :
    k0_pay4 (F := Ideal) (ValueIdx.ix2 g o) = if o.val / 8 = g.val then (1 : EReal) else 0 := by
  pointwise [k0_pay4]
  refine (congrArg (FloatOps.sitofp (F := Ideal) FTy.f32) (?_ : _ = if o.val / 8 = g.val then 1#32 else 0#32)).trans (sito_ite _)
  revert g o
  decide +kernel

/-- The matrix that spreads a group over its channels. -/
theorem pay8_apply (o : Fin 64) (g : Fin 8) :
    k0_pay8 (F := Ideal) (iota .tc S64x8 32 [0] iota_S64x8_d0_w32) (iota .tc S64x8 32 [1] iota_S64x8_d1_w32) k0_pay5 k0_pay6 k0_pay7 (ValueIdx.ix2 o g)
      = if o.val / 8 = g.val then (1 : EReal) else 0 := by
  pointwise [k0_pay8, k0_pay5, k0_pay6, k0_pay7]
  refine (congrArg (FloatOps.sitofp (F := Ideal) FTy.f32) (?_ : _ = if o.val / 8 = g.val then 1#32 else 0#32)).trans (sito_ite _)
  revert g o
  decide +kernel

/-- A sum over the channels of a group. -/
theorem sum_group (f : Fin 64 → EReal) (g : Fin 8) :
    ∑ o : Fin 64, (if o.val / 8 = g.val then (1 : EReal) else 0) * f o = ∑ c : Fin 8, f (Spec.grp g c) := by
  simp only [ite_mul, one_mul, zero_mul]
  rw [← Finset.sum_filter]
  refine (Finset.sum_nbij' (i := fun c => Spec.grp g c) (j := Spec.cOf) ?_ ?_ ?_ ?_ ?_).symm
  · intro c _
    simp only [Finset.mem_filter, Finset.mem_univ, true_and]
    show (g.val * 8 + c.val) / 8 = g.val
    omega
  · intro o _; exact Finset.mem_univ _
  · intro c _
    exact Fin.ext (by show (g.val * 8 + c.val) % 8 = c.val; omega)
  · intro o ho
    have h : o.val / 8 = g.val := (Finset.mem_filter.mp ho).2
    exact Fin.ext (by show g.val * 8 + o.val % 8 = o.val; omega)
  · intro c _; rfl
/-- A sum that picks the group of a channel. -/
theorem sum_pick (f : Fin 8 → EReal) (o : Fin 64) :
    ∑ g : Fin 8, (if o.val / 8 = g.val then (1 : EReal) else 0) * f g = f (Spec.gOf o) := by
  rw [Finset.sum_eq_single (Spec.gOf o)]
  · rw [if_pos (show o.val / 8 = (Spec.gOf o).val from rfl), one_mul]
  · intro g _ hg
    rw [if_neg (fun h => hg (Fin.ext h.symm)), zero_mul]
  · intro h; exact absurd (Finset.mem_univ _) h

theorem pay9_apply (s : FVec Ideal S64x1 .f32) (g : Fin 8) :
    k0_pay9 (F := Ideal) k0_pay4 s (ValueIdx.ix2 g 0) = Ideal.div (∑ c, s (ValueIdx.ix2 (Spec.grp g c) 0)) ((204800 : ℝ) : EReal) := by
  pointwise [k0_pay9]
  rw [n_val, ← sum_group (fun o => s (ValueIdx.ix2 o 0)) g]
  simp only [← pay4_apply]
  rfl
theorem aCol_apply (s q p0 : FVec Ideal S64x1 .f32) (o : Fin 64) :
    aCol s q p0 (ValueIdx.ix2 o 0) = p0 (ValueIdx.ix2 o 0) * Ideal.rsqrt (Ideal.div (∑ c, q (ValueIdx.ix2 (Spec.grp (Spec.gOf o) c) 0)) ((204800 : ℝ) : EReal)
      - k0_pay9 (F := Ideal) k0_pay4 s (ValueIdx.ix2 (Spec.gOf o) 0) * k0_pay9 (F := Ideal) k0_pay4 s (ValueIdx.ix2 (Spec.gOf o) 0) + Spec.epsV) := by
  unfold aCol
  pointwise [k0_pay10]
  rw [n_val]
  refine congrArg (_ * ·) ?_
  refine Eq.trans ?_ (sum_pick (fun g => Ideal.rsqrt (Ideal.div (∑ c, q (ValueIdx.ix2 (Spec.grp g c) 0)) ((204800 : ℝ) : EReal)
      - k0_pay9 (F := Ideal) k0_pay4 s (ValueIdx.ix2 g 0) * k0_pay9 (F := Ideal) k0_pay4 s (ValueIdx.ix2 g 0) + Spec.epsV)) o)
  refine Finset.sum_congr rfl fun g _ => ?_
  rw [← sum_group (fun o => q (ValueIdx.ix2 o 0)) g, ← pay8_apply o g]
  simp only [← pay4_apply]
  rfl
theorem bCol_apply (s q p0 p1 : FVec Ideal S64x1 .f32) (o : Fin 64) :
    bCol s q p0 p1 (ValueIdx.ix2 o 0) = p1 (ValueIdx.ix2 o 0) - k0_pay9 (F := Ideal) k0_pay4 s (ValueIdx.ix2 (Spec.gOf o) 0) * aCol s q p0 (ValueIdx.ix2 o 0) := by
  unfold bCol
  pointwise [k0_pay11]
  refine congrArg (_ - ·) (congrArg (· * _) ?_)
  refine Eq.trans ?_ (sum_pick (fun g => k0_pay9 (F := Ideal) k0_pay4 s (ValueIdx.ix2 g 0)) o)
  refine Finset.sum_congr rfl fun g _ => ?_
  rw [← pay8_apply o g]
  rfl
theorem norm_apply (s q p0 p1 : FVec Ideal S64x1 .f32) (y : FVec Ideal S64x25600 .bf16) (o : Fin 64) (k : Fin 25600) :
    norm s q p0 p1 y (ValueIdx.ix2 o k) = y (ValueIdx.ix2 o k) * aCol s q p0 (ValueIdx.ix2 o 0) + bCol s q p0 p1 (ValueIdx.ix2 o 0) := by
  unfold norm
  pointwise [k0_pay1, k0_pay12]
  rfl
theorem wEff_apply (s q : FVec Ideal S64x1 .f32) (d4 : FVec Ideal S16x64 .f32) (d5 : FVec Ideal S64x16 .f32) (d6 : FVec Ideal S64x6 .f32) (o : Fin 64) :
    wEff s q d4 d5 d6 (ValueIdx.ix2 o 0) = d6 (ValueIdx.ix2 o 3) + Spec.gate (fun k c => d4 (ValueIdx.ix2 k c)) (fun k => d6 (ValueIdx.ix2 ⟨k.val, by omega⟩ 5))
      (fun o k => d5 (ValueIdx.ix2 o k)) (fun o => d6 (ValueIdx.ix2 o 2))
      (fun c => aCol s q (pcolP d6 0 inb_S64x6_S64x1_0_0) (ValueIdx.ix2 c 0) * Ideal.div (s (ValueIdx.ix2 c 0)) ((25600 : ℝ) : EReal)
        + bCol s q (pcolP d6 0 inb_S64x6_S64x1_0_0) (pcolP d6 1 inb_S64x6_S64x1_0_1) (ValueIdx.ix2 c 0)) o * d6 (ValueIdx.ix2 o 4) := by
  have hp : ∀ (k : Fin 6) (h) (o : Fin 64), pcolP d6 k.val h (ValueIdx.ix2 o 0) = d6 (ValueIdx.ix2 o k) := fun k h o =>
    congrArg d6 (funext fun a => Fin.ext (by
      match a with
      | ⟨0, _⟩ => show 0 + 1 * o.val = o.val; omega
      | ⟨1, _⟩ => show k.val + 1 * 0 = k.val; omega))
  unfold wEff
  pointwise [k0_pay2]
  rw [hw_val]
  unfold Spec.gate
  rw [show pcolP d6 2 inb_S64x6_S64x1_0_2 (ValueIdx.ix2 o 0) = _ from hp 2 _ o, show pcolP d6 3 inb_S64x6_S64x1_0_3 (ValueIdx.ix2 o 0) = _ from hp 3 _ o,
    show pcolP d6 4 inb_S64x6_S64x1_0_4 (ValueIdx.ix2 o 0) = _ from hp 4 _ o]
  rfl

end Cert.KernelIdeal.Hand

end
-- ==== Proof.KISten.lean ====
module

public import proofs.«01_k».proof.Proof.KIPay
public import Idealize.ShloMosaic.Lib.Claim
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.Sem

/-! ## The stencil -/

theorem absf_ab (x : EReal) : FloatOps.absf (F := Ideal) (φ := .bf16) x = Spec.ab x := rfl

/-- The left neighbour on a row of lanes, zero at the left edge of an image row. -/
def Lc (f : FVec Ideal S64x6400 .bf16) (o : Fin 64) (q : Fin 6400) : EReal :=
  if q.val % 160 ≠ 0 then f (ValueIdx.ix2 o ⟨q.val - 1, by omega⟩) else 0
/-- The right neighbour on a row of lanes, zero at the right edge of an image row. -/
def Rc (f : FVec Ideal S64x6400 .bf16) (o : Fin 64) (q : Fin 6400) : EReal :=
  if h : q.val % 160 ≠ 159 then f (ValueIdx.ix2 o ⟨1 + q.val, by omega⟩) else 0

theorem mask_left : ∀ q : Fin 6400, k0_pay32 (ValueIdx.ix2 0 q) = if q.val % 160 ≠ 0 then 1#1 else 0#1 := by
  intro q
  pointwise [k0_pay32, k0_pay31]
  revert q
  decide +kernel
theorem mask_right : ∀ q : Fin 6400, k0_pay33 (ValueIdx.ix2 0 q) = if q.val % 160 ≠ 159 then 1#1 else 0#1 := by
  intro q
  pointwise [k0_pay33, k0_pay31]
  revert q
  decide +kernel

theorem zero_val : Ideal.ofBits .bf16 0#16 = 0 := Ideal.ofBits_zero_bf16
theorem sito_zero : (((0#32).toInt : ℝ) : EReal) = 0 := by norm_num

/-- A masked left shift is the left neighbour. -/
theorem left_eq (g : FVec Ideal S64x6400 .bf16) (o : Fin 64) (q : Fin 6400) :
    Scalar.select (k0_pay32 (ValueIdx.ix2 0 q)) (if h : q.val < 1 then (0 : EReal) else g (ValueIdx.ix2 o ⟨q.val - 1, by omega⟩))
      (((0#32).toInt : ℝ) : EReal) = Lc g o q := by
  rw [mask_left, sito_zero]
  unfold Lc Scalar.select
  by_cases h : q.val % 160 = 0
  · rw [if_neg (not_not.mpr h), if_neg (not_not.mpr h)]; rfl
  · rw [if_pos h, if_pos h, dif_neg (by omega : ¬ q.val < 1)]; rfl
/-- A masked right shift is the right neighbour. -/
theorem right_eq (g : FVec Ideal S64x6400 .bf16) (o : Fin 64) (q : Fin 6400) :
    Scalar.select (k0_pay33 (ValueIdx.ix2 0 q)) (if h : q.val < 6399 then g (ValueIdx.ix2 o ⟨1 + q.val, by omega⟩) else (0 : EReal))
      (((0#32).toInt : ℝ) : EReal) = Rc g o q := by
  rw [mask_right, sito_zero]
  unfold Rc Scalar.select
  by_cases h : q.val % 160 = 159
  · rw [if_neg (not_not.mpr h), dif_neg (not_not.mpr h)]; rfl
  · rw [if_pos h, dif_pos h, dif_pos (by omega : q.val < 6399)]; rfl

theorem pay34_apply (c u d : FVec Ideal S64x6400 .bf16) (o : Fin 64) (q : Fin 6400) :
    k0_pay34 (F := Ideal) c u d (ValueIdx.ix2 o q) = u (ValueIdx.ix2 o q) + c (ValueIdx.ix2 o q) + d (ValueIdx.ix2 o q) := by
  pointwise [k0_pay34]
theorem pay35_apply (c u d : FVec Ideal S64x6400 .bf16) (o : Fin 64) (q : Fin 6400) :
    k0_pay35 (F := Ideal) c u d (ValueIdx.ix2 o q) = k0_pay34 (F := Ideal) c u d (ValueIdx.ix2 o q) + c (ValueIdx.ix2 o q) := by
  pointwise [k0_pay35]
theorem pay36_apply (u d : FVec Ideal S64x6400 .bf16) (o : Fin 64) (q : Fin 6400) :
    k0_pay36 (F := Ideal) u d (ValueIdx.ix2 o q) = u (ValueIdx.ix2 o q) - d (ValueIdx.ix2 o q) := by
  pointwise [k0_pay36]
theorem pay38_apply (c u d : FVec Ideal S64x6400 .bf16) (o : Fin 64) (q : Fin 6400) :
    k0_pay38 (F := Ideal) c u d (ValueIdx.ix2 o q) = k0_pay34 (F := Ideal) c u d (ValueIdx.ix2 o q) + Lc (k0_pay34 (F := Ideal) c u d) o q := by
  pointwise [k0_pay38, k0_pay37]
  exact congrArg (k0_pay34 (F := Ideal) c u d (ValueIdx.ix2 o q) + ·) (left_eq _ o q)
theorem pay40_apply (c u d : FVec Ideal S64x6400 .bf16) (o : Fin 64) (q : Fin 6400) :
    k0_pay40 (F := Ideal) c k0_pay32 k0_pay33 (k0_pay35 (F := Ideal) c u d) (k0_pay36 (F := Ideal) u d) (k0_pay37 (F := Ideal)) (k0_pay38 (F := Ideal) c u d) (k0_pay39 (F := Ideal) c u d) (ValueIdx.ix2 o q) =
    Ideal.div (Spec.ab (c (ValueIdx.ix2 o q) * ((9 : ℝ) : EReal) - (k0_pay34 (F := Ideal) c u d (ValueIdx.ix2 o q) + Lc (k0_pay34 (F := Ideal) c u d) o q + Rc (k0_pay34 (F := Ideal) c u d) o q)) * ((4 / 9 : ℝ) : EReal))
      (Spec.ab (Lc (k0_pay35 (F := Ideal) c u d) o q - Rc (k0_pay35 (F := Ideal) c u d) o q)
        + Spec.ab (Lc (k0_pay36 (F := Ideal) u d) o q + k0_pay36 (F := Ideal) u d (ValueIdx.ix2 o q) + k0_pay36 (F := Ideal) u d (ValueIdx.ix2 o q) + Rc (k0_pay36 (F := Ideal) u d) o q)
        + (Spec.e4 : EReal)) := by
  pointwise [k0_pay40, k0_pay39, k0_pay37]
  refine congrArg₂ Ideal.div (congrArg₂ (· * ·) (congrArg Spec.ab ?_) ninths_val)
    (congrArg₂ (· + ·) (congrArg₂ (· + ·) (congrArg Spec.ab ?_) (congrArg Spec.ab ?_)) eps4_val)
  · exact congrArg₂ (· - ·) (congrArg (c (ValueIdx.ix2 o q) * ·) nine_val)
      (congrArg₂ (· + ·) (pay38_apply c u d o q) (right_eq _ o q))
  · exact congrArg₂ (· - ·) (left_eq _ o q) (right_eq _ o q)
  · exact congrArg₂ (· + ·) (congrArg (· + k0_pay36 (F := Ideal) u d (ValueIdx.ix2 o q)) (congrArg (· + k0_pay36 (F := Ideal) u d (ValueIdx.ix2 o q)) (left_eq _ o q)))
      (right_eq _ o q)

theorem pay41_val (o : Fin 64) (q : Fin 6400) : k0_pay41 (F := Ideal) (ValueIdx.ix2 o q) = ((2 : ℝ) : EReal) := by
  pointwise [k0_pay41]
  exact two_val
/-- The nine values round a lane of a window of the buffer of pixels. -/
def tapB (b : FVec Ideal S64x6720 .bf16) (o : Fin 64) (i : Fin 40) (j : Fin 160) (r k : ℕ) : EReal :=
  if h : i.val + r < 42 ∧ 1 ≤ j.val + k ∧ j.val + k - 1 < 160 then b (ValueIdx.ix2 o ⟨160 * (i.val + r) + (j.val + k - 1), by omega⟩) else 0
/-- The lane of a pixel of a slab. -/
def lane (i : Fin 40) (j : Fin 160) : Fin 6400 := ⟨i.val * 160 + j.val, by omega⟩
/-- The row of lanes `r` of a window. -/
abbrev row (b : FVec Ideal S64x6720 .bf16) (n : ℕ) (h : ∀ a, (![0, n] : Fin 2 → ℕ) a + S64x6400.size a ≤ S64x6720.size a) : FVec Ideal S64x6400 .bf16 :=
  View.ld (Val := Elt Ideal) (e' := .bf16) b (stR n h)

theorem row_apply (b : FVec Ideal S64x6720 .bf16) (r : ℕ) (hr : r < 3) (h) (o : Fin 64) (q : Fin 6400) :
    row b (160 * r) h (ValueIdx.ix2 o q) = b (ValueIdx.ix2 o ⟨160 * r + q.val, by omega⟩) :=
  congrArg b (funext fun a => Fin.ext (by
    match a with
    | ⟨0, _⟩ => show 0 + 1 * o.val = o.val; omega
    | ⟨1, _⟩ => show 160 * r + 1 * q.val = 160 * r + q.val; omega))

section
variable (b : FVec Ideal S64x6720 .bf16) (r : ℕ) (hr : r < 3) (h : ∀ a, (![0, 160 * r] : Fin 2 → ℕ) a + S64x6400.size a ≤ S64x6720.size a)
  (o : Fin 64) (i : Fin 40) (j : Fin 160)
include hr
theorem row_mid : row b (160 * r) h (ValueIdx.ix2 o (lane i j)) = tapB b o i j r 1 := by
  rw [row_apply b r hr h, tapB, dif_pos ⟨by omega, by omega, by omega⟩]
  exact congrArg b (congrArg (ValueIdx.ix2 o) (Fin.ext (by show 160 * r + (i.val * 160 + j.val) = 160 * (i.val + r) + (j.val + 1 - 1); omega)))
theorem row_left : Lc (row b (160 * r) h) o (lane i j) = tapB b o i j r 0 := by
  unfold Lc tapB
  have e : (lane i j).val = i.val * 160 + j.val := rfl
  by_cases hj : j.val = 0
  · rw [if_neg (by omega), dif_neg (by omega)]
  · rw [if_pos (by omega), dif_pos ⟨by omega, by omega, by omega⟩, row_apply b r hr h]
    exact congrArg b (congrArg (ValueIdx.ix2 o) (Fin.ext (by show 160 * r + ((lane i j).val - 1) = 160 * (i.val + r) + (j.val + 0 - 1); omega)))
theorem row_right : Rc (row b (160 * r) h) o (lane i j) = tapB b o i j r 2 := by
  unfold Rc tapB
  have e : (lane i j).val = i.val * 160 + j.val := rfl
  by_cases hj : j.val = 159
  · rw [dif_neg (by omega), dif_neg (by omega)]
  · rw [dif_pos (by omega), dif_pos ⟨by omega, by omega, by omega⟩, row_apply b r hr h]
    exact congrArg b (congrArg (ValueIdx.ix2 o) (Fin.ext (by show 160 * r + (1 + (lane i j).val) = 160 * (i.val + r) + (j.val + 2 - 1); omega)))
end

section
variable (c u d : FVec Ideal S64x6400 .bf16) (o : Fin 64) (q : Fin 6400)
theorem Lc34 : Lc (k0_pay34 (F := Ideal) c u d) o q = Lc u o q + Lc c o q + Lc d o q := by
  unfold Lc; split_ifs
  · exact pay34_apply ..
  · rw [add_zero, add_zero]
theorem Rc34 : Rc (k0_pay34 (F := Ideal) c u d) o q = Rc u o q + Rc c o q + Rc d o q := by
  unfold Rc; split_ifs
  · exact pay34_apply ..
  · rw [add_zero, add_zero]
theorem Lc35 : Lc (k0_pay35 (F := Ideal) c u d) o q = Lc u o q + Lc c o q + Lc d o q + Lc c o q := by
  rw [← Lc34]; unfold Lc; split_ifs
  · exact pay35_apply ..
  · rw [add_zero]
theorem Rc35 : Rc (k0_pay35 (F := Ideal) c u d) o q = Rc u o q + Rc c o q + Rc d o q + Rc c o q := by
  rw [← Rc34]; unfold Rc; split_ifs
  · exact pay35_apply ..
  · rw [add_zero]
theorem Lc36 : Lc (k0_pay36 (F := Ideal) u d) o q = Lc u o q - Lc d o q := by
  unfold Lc; split_ifs
  · exact pay36_apply ..
  · rw [sub_zero]
theorem Rc36 : Rc (k0_pay36 (F := Ideal) u d) o q = Rc u o q - Rc d o q := by
  unfold Rc; split_ifs
  · exact pay36_apply ..
  · rw [sub_zero]
end

/-- The curvature of a pixel, as the body computes it. -/
theorem kap_apply (b : FVec Ideal S64x6720 .bf16) (o : Fin 64) (i : Fin 40) (j : Fin 160) (h0 h1 h2) :
    1 - min (k0_pay40 (F := Ideal) (row b 160 h1) k0_pay32 k0_pay33 (k0_pay35 (F := Ideal) (row b 160 h1) (row b 0 h0) (row b 320 h2))
      (k0_pay36 (F := Ideal) (row b 0 h0) (row b 320 h2)) (k0_pay37 (F := Ideal)) (k0_pay38 (F := Ideal) (row b 160 h1) (row b 0 h0) (row b 320 h2))
      (k0_pay39 (F := Ideal) (row b 160 h1) (row b 0 h0) (row b 320 h2)) (ValueIdx.ix2 o (lane i j))) (k0_pay41 (F := Ideal) (ValueIdx.ix2 o (lane i j)))
    = Spec.kapK (tapB b o i j) := by
  rw [pay40_apply, pay41_val, Lc34, Rc34, Lc35, Rc35, Lc36, Rc36, pay34_apply, pay36_apply]
  have m0 := row_mid b 0 (by decide) h0 o i j
  have m1 := row_mid b 1 (by decide) h1 o i j
  have m2 := row_mid b 2 (by decide) h2 o i j
  have l0 := row_left b 0 (by decide) h0 o i j
  have l1 := row_left b 1 (by decide) h1 o i j
  have l2 := row_left b 2 (by decide) h2 o i j
  have r0 := row_right b 0 (by decide) h0 o i j
  have r1 := row_right b 1 (by decide) h1 o i j
  have r2 := row_right b 2 (by decide) h2 o i j
  simp only [Nat.mul_zero, Nat.mul_one, show 160 * 2 = 320 from rfl] at m0 m1 m2 l0 l1 l2 r0 r1 r2
  rw [m0, m1, m2, l0, l1, l2, r0, r1, r2]
  rfl

/-- The output block at a pixel. -/
theorem outB_apply (b : FVec Ideal S64x6720 .bf16) (we : FVec Ideal S64x1 .f32) (x : FVec Ideal S1x256x6400 .f32) (ch : Fin 256) (i : Fin 40) (j : Fin 160) :
    outB (F := Ideal) b we x (ValueIdx.ix4 0 ch i j) = x (ValueIdx.ix3 0 ch (lane i j))
      * (1 + Spec.c01 * Ideal.logistic (∑ o : Fin 64, Spec.kapK (tapB b o i j) * we (ValueIdx.ix2 o 0))) := by
  unfold outB
  simp only [← kap_apply b _ i j inb_S64x6720_S64x6400_0_0 inb_S64x6720_S64x6400_0_160 inb_S64x6720_S64x6400_0_320]
  generalize hK : k0_pay40 (F := Ideal) _ _ _ _ _ _ _ _ = K
  pointwise [k0_pay3]
  rfl

end Cert.KernelIdeal.Hand

end
-- ==== Proof.KIVal.lean ====
module

public import proofs.«01_k».proof.Proof.KISten
public import proofs.«01_k».proof.Proof.KIOut
public import Idealize.ShloMosaic.Lib.Claim
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.Sem

/-! ## Sums over an image, slab by slab -/

theorem sum_flat (a b : ℕ) (f : ℕ → EReal) : ∑ k : Fin a, ∑ q : Fin b, f (k.val * b + q.val) = ∑ z : Fin (a * b), f z.val := by
  rw [← Fintype.sum_prod_type' (f := fun (k : Fin a) (q : Fin b) => f (k.val * b + q.val))]
  refine Fintype.sum_equiv finProdFinEquiv _ _ fun p => congrArg f ?_
  show p.1.val * b + p.2.val = p.2.val + b * p.1.val
  rw [Nat.mul_comm]; exact Nat.add_comm _ _

/-- A sum over four slabs of 6400 lanes is the sum over the pixels. -/
theorem sum_slabs (f : Fin 160 → Fin 160 → EReal) :
    ∑ k : Fin 4, ∑ q : Fin 6400, f ⟨(k.val * 6400 + q.val) / 160, by omega⟩ ⟨(k.val * 6400 + q.val) % 160, by omega⟩ = ∑ i, ∑ j, f i j := by
  have h1 := sum_flat 4 6400 fun z => f ⟨z / 160 % 160, by omega⟩ ⟨z % 160, by omega⟩
  have h2 := sum_flat 160 160 fun z => f ⟨z / 160 % 160, by omega⟩ ⟨z % 160, by omega⟩
  refine Eq.trans ?_ (h1.trans (Eq.trans ?_ (h2.symm.trans ?_)))
  · refine Finset.sum_congr rfl fun k _ => Finset.sum_congr rfl fun q _ => ?_
    refine congrArg₂ f (Fin.ext ?_) rfl
    show (k.val * 6400 + q.val) / 160 = (k.val * 6400 + q.val) / 160 % 160
    omega
  · rfl
  · refine Finset.sum_congr rfl fun i _ => Finset.sum_congr rfl fun j _ => ?_
    refine congrArg₂ f (Fin.ext ?_) (Fin.ext ?_)
    · show (i.val * 160 + j.val) / 160 % 160 = i.val
      omega
    · show (i.val * 160 + j.val) % 160 = j.val
      omega

/-! ## One sample -/

variable (m : (ℓ : Loc nD τ sig) → Buf (Elt Ideal) ℓ) (c : Dev nD)

/-- The arguments as functions of their coordinates. -/
def aX (b : Fin 8) (ch : Fin 256) (i j : Fin 160) : EReal := (m ((c.tc : Thread nD τ).loc main_arg0) : FVec Ideal S8x256x160x160 .f32) (ValueIdx.ix4 b ch i j)
def aW (o : Fin 64) (ch : Fin 256) : EReal := (m ((c.tc : Thread nD τ).loc main_arg1) : FVec Ideal S64x256x1x1 .f32) (ValueIdx.ix4 o ch 0 0)
def aG (o : Fin 64) : EReal := (m ((c.tc : Thread nD τ).loc main_arg2) : FVec Ideal S64 .f32) (ValueIdx.ix1 o)
def aB (o : Fin 64) : EReal := (m ((c.tc : Thread nD τ).loc main_arg3) : FVec Ideal S64 .f32) (ValueIdx.ix1 o)
def aW1 (k : Fin 16) (o : Fin 64) : EReal := (m ((c.tc : Thread nD τ).loc main_arg4) : FVec Ideal S16x64x1x1 .f32) (ValueIdx.ix4 k o 0 0)
def aB1 (k : Fin 16) : EReal := (m ((c.tc : Thread nD τ).loc main_arg5) : FVec Ideal S16 .f32) (ValueIdx.ix1 k)
def aW2 (o : Fin 64) (k : Fin 16) : EReal := (m ((c.tc : Thread nD τ).loc main_arg6) : FVec Ideal S64x16x1x1 .f32) (ValueIdx.ix4 o k 0 0)
def aB2 (o : Fin 64) : EReal := (m ((c.tc : Thread nD τ).loc main_arg7) : FVec Ideal S64 .f32) (ValueIdx.ix1 o)
def aF1 (o : Fin 64) : EReal := (m ((c.tc : Thread nD τ).loc main_arg8) : FVec Ideal S1x128x1x1 .f32) (ValueIdx.ix4 0 ⟨o.val, by omega⟩ 0 0)
def aF2 (o : Fin 64) : EReal := (m ((c.tc : Thread nD τ).loc main_arg8) : FVec Ideal S1x128x1x1 .f32) (ValueIdx.ix4 0 ⟨64 + o.val, by omega⟩ 0 0)

section
variable (b : Fin 8)

theorem raw_apply (k : ℕ) (hk : k < 4) (o : Fin 64) (q : Fin 6400) :
    k0_pay13 (F := Ideal) (xsT m c b.val k) (wT m c) (ValueIdx.ix2 o q) = Spec.raw (aX m c b) (aW m c) o
      ⟨(k * 6400 + q.val) / 160, by omega⟩ ⟨(k * 6400 + q.val) % 160, by omega⟩ := by
  rw [pay13_apply]
  refine Finset.sum_congr rfl fun ch _ => congrArg₂ (· * ·) (wT_apply m c o ch) ?_
  refine (xT_apply m c (8 * b.val + k) (by omega) ch q).trans ?_
  have hs : slabOf ((8 * b.val + k) % 8) = k := by
    rw [show (8 * b.val + k) % 8 = k by omega]; exact if_pos hk
  refine congrArg _ (congr (congr (congrArg (ValueIdx.ix4 · ch) (Fin.ext ?_)) (Fin.ext ?_)) (Fin.ext ?_))
  · show (8 * b.val + k) / 8 = b.val; omega
  · show (slabOf ((8 * b.val + k) % 8) * 6400 + q.val) / 160 = _; rw [hs]
  · show (slabOf ((8 * b.val + k) % 8) * 6400 + q.val) % 160 = _; rw [hs]

theorem s_apply (o : Fin 64) : SM (xsT m c b.val) (wT m c) 3 (ValueIdx.ix2 o 0) = Spec.sK (aX m c b) (aW m c) o := by
  rw [SM_apply]
  refine Eq.trans ?_ (sum_slabs (Spec.raw (aX m c b) (aW m c) o))
  exact Finset.sum_congr rfl fun k _ => Finset.sum_congr rfl fun q _ => raw_apply m c b k.val k.isLt o q
theorem q_apply (o : Fin 64) : SQ (xsT m c b.val) (wT m c) 3 (ValueIdx.ix2 o 0) = Spec.qK (aX m c b) (aW m c) o := by
  rw [SQ_apply]
  refine Eq.trans ?_ (sum_slabs fun i j => Spec.raw (aX m c b) (aW m c) o i j * Spec.raw (aX m c b) (aW m c) o i j)
  exact Finset.sum_congr rfl fun k _ => Finset.sum_congr rfl fun q _ => by rw [raw_apply m c b k.val k.isLt o q]

theorem pcol_apply (d6 : FVec Ideal S64x6 .f32) (k : Fin 6) (h) (o : Fin 64) : pcolP d6 k.val h (ValueIdx.ix2 o 0) = d6 (ValueIdx.ix2 o k) :=
  congrArg d6 (funext fun a => Fin.ext (by
    match a with
    | ⟨0, _⟩ => show 0 + 1 * o.val = o.val; omega
    | ⟨1, _⟩ => show k.val + 1 * 0 = k.val; omega))

theorem mean_apply (g : Fin 8) : k0_pay9 (F := Ideal) k0_pay4 (SM (xsT m c b.val) (wT m c) 3) (ValueIdx.ix2 g 0) = Spec.meanK (aX m c b) (aW m c) g := by
  rw [pay9_apply]; simp only [s_apply]; rfl
theorem a_apply (o : Fin 64) : aCol (SM (xsT m c b.val) (wT m c) 3) (SQ (xsT m c b.val) (wT m c) 3) (pcolP (parT m c) 0 inb_S64x6_S64x1_0_0) (ValueIdx.ix2 o 0)
    = Spec.aK (aX m c b) (aW m c) (aG m c) o := by
  rw [aCol_apply, mean_apply]; simp only [q_apply]
  exact congrArg (· * _) ((pcol_apply (parT m c) 0 _ o).trans (par0_apply m c o))
theorem b_apply (o : Fin 64) : bCol (SM (xsT m c b.val) (wT m c) 3) (SQ (xsT m c b.val) (wT m c) 3) (pcolP (parT m c) 0 inb_S64x6_S64x1_0_0)
      (pcolP (parT m c) 1 inb_S64x6_S64x1_0_1) (ValueIdx.ix2 o 0) = Spec.bK (aX m c b) (aW m c) (aG m c) (aB m c) o := by
  rw [bCol_apply, mean_apply, a_apply]
  exact congrArg (· - _) ((pcol_apply (parT m c) 1 _ o).trans (par1_apply m c o))

/-- The normalized image at a flat position. -/
theorem y_apply (o : Fin 64) (k : Fin 25600) : ynorm (xsT m c b.val) (wT m c) (parT m c) (ValueIdx.ix2 o k)
    = Spec.yK (aX m c b) (aW m c) (aG m c) (aB m c) o ⟨k.val / 160, by omega⟩ ⟨k.val % 160, by omega⟩ := by
  unfold ynorm
  rw [norm_apply, a_apply, b_apply]
  unfold Spec.yK
  refine congrArg (· + _) (congrArg (· * _) ?_)
  refine (pay15_apply _ _ o ⟨k.val % 6400, by omega⟩).trans ((raw_apply m c b (k.val / 6400) (by omega) o ⟨k.val % 6400, by omega⟩).trans ?_)
  refine congrArg₂ (Spec.raw (aX m c b) (aW m c) o) (Fin.ext ?_) (Fin.ext ?_)
  · show (k.val / 6400 * 6400 + k.val % 6400) / 160 = k.val / 160; omega
  · show (k.val / 6400 * 6400 + k.val % 6400) % 160 = k.val % 160; omega

/-- The effective weights. -/
theorem we_apply (o : Fin 64) : weff (xsT m c b.val) (wT m c) (w1T m c) (w2T m c) (parT m c) (ValueIdx.ix2 o 0)
    = Spec.wK (aX m c b) (aW m c) (aG m c) (aB m c) (aW1 m c) (aB1 m c) (aW2 m c) (aB2 m c) (aF1 m c) (aF2 m c) o := by
  unfold weff
  rw [wEff_apply]
  simp only [a_apply, b_apply, s_apply, w1T_apply, w2T_apply, par2_apply, par3_apply, par4_apply, par5_apply]
  rfl

theorem padV_zero : (padV : Elt Ideal .bf16) = (0 : EReal) := zero_val

/-- The nine values round a pixel of slab `s` are the nine taps of the normalized image. -/
theorem tapB_apply (s p : ℕ) (hs : s < 4) (hp : p = 4 + (s + 1) % 4) (o : Fin 64) (i : Fin 160) (hi : i.val / 40 = s) (j : Fin 160) (r k : ℕ) (hr : r < 3) :
    tapB (View.ld (Val := Elt Ideal) (e' := .bf16) (ybuf (xsT m c b.val) (wT m c) (parT m c)) (winR p)) o ⟨i.val % 40, by omega⟩ j r k
      = Spec.taps (Spec.yK (aX m c b) (aW m c) (aG m c) (aB m c) o) i j r k := by
  have hw : winO p = 256 + 6400 * s - 160 := by
    subst hp; unfold winO; split_ifs <;> omega
  unfold Spec.taps Spec.tap tapB
  by_cases hj : 1 ≤ j.val + k ∧ j.val + k - 1 < 160
  · rw [dif_pos ⟨by show i.val % 40 + r < 42; omega, hj⟩]
    have e1 : (ValueIdx.ix2 o (⟨160 * (i.val % 40 + r) + (j.val + k - 1), by omega⟩ : Fin 6720)) = (ValueIdx.ix2 o (⟨160 * (i.val % 40 + r) + (j.val + k - 1), by omega⟩ : Fin 6720)) := rfl
    have hE : View.ld (Val := Elt Ideal) (e' := .bf16) (ybuf (xsT m c b.val) (wT m c) (parT m c)) (winR p)
        (ValueIdx.ix2 o (⟨160 * (i.val % 40 + r) + (j.val + k - 1), by omega⟩ : Fin 6720))
        = ybuf (xsT m c b.val) (wT m c) (parT m c) (ValueIdx.ix2 o (⟨winO p + (160 * (i.val % 40 + r) + (j.val + k - 1)), by omega⟩ : Fin 26112)) :=
      congrArg (ybuf (xsT m c b.val) (wT m c) (parT m c)) (funext fun a => Fin.ext (by
        match a with
        | ⟨0, _⟩ => show 0 + 1 * o.val = o.val; omega
        | ⟨1, _⟩ => show winO p + 1 * (160 * (i.val % 40 + r) + (j.val + k - 1)) = winO p + (160 * (i.val % 40 + r) + (j.val + k - 1)); omega))
    refine hE.trans ?_
    by_cases hv : 1 ≤ i.val + r ∧ i.val + r - 1 < 160
    · rw [dif_pos ⟨hv, hj⟩]
      refine (dif_pos (show 256 ≤ winO p + (160 * (i.val % 40 + r) + (j.val + k - 1)) ∧ winO p + (160 * (i.val % 40 + r) + (j.val + k - 1)) < 25856 by omega)).trans ?_
      refine (y_apply m c b o ⟨winO p + (160 * (i.val % 40 + r) + (j.val + k - 1)) - 256, by omega⟩).trans ?_
      refine congrArg₂ (Spec.yK (aX m c b) (aW m c) (aG m c) (aB m c) o) (Fin.ext ?_) (Fin.ext ?_)
      · show (winO p + (160 * (i.val % 40 + r) + (j.val + k - 1)) - 256) / 160 = i.val + r - 1; omega
      · show (winO p + (160 * (i.val % 40 + r) + (j.val + k - 1)) - 256) % 160 = j.val + k - 1; omega
    · rw [dif_neg (fun h => hv h.1)]
      refine (dif_neg (show ¬ (256 ≤ winO p + (160 * (i.val % 40 + r) + (j.val + k - 1)) ∧ winO p + (160 * (i.val % 40 + r) + (j.val + k - 1)) < 25856) by omega)).trans ?_
      exact padV_zero
  · rw [dif_neg (fun h => hj h.2), dif_neg (fun h => hj h.2)]
end

/-- The curvature reads the taps only at the nine places. -/
theorem kapK_congr (S T : ℕ → ℕ → EReal) (h : ∀ r k, r < 3 → S r k = T r k) : Spec.kapK S = Spec.kapK T := by
  unfold Spec.kapK Spec.mu9 Spec.gxK Spec.gyK Spec.colS Spec.colE
  simp only [h 0 _ (by decide), h 1 _ (by decide), h 2 _ (by decide)]

/-- The kernel's result at an index. -/
theorem outG_apply (b : Fin 8) (ch : Fin 256) (i j : Fin 160) : outG m c (ValueIdx.ix4 b ch i j)
    = Spec.outK (aX m c b) (aW m c) (aG m c) (aB m c) (aW1 m c) (aB1 m c) (aW2 m c) (aB2 m c) (aF1 m c) (aF2 m c) ch i j := by
  have hn : 8 * b.val + 4 + (i.val / 40 + 1) % 4 < 64 := by omega
  have hd : (8 * b.val + 4 + (i.val / 40 + 1) % 4) / 8 = b.val := by omega
  have hm : (8 * b.val + 4 + (i.val / 40 + 1) % 4) % 8 = 4 + (i.val / 40 + 1) % 4 := by omega
  show outT m c (8 * b.val + 4 + (i.val / 40 + 1) % 4) (ValueIdx.ix4 0 ch ⟨i.val % 40, Nat.mod_lt _ (by decide)⟩ j) = _
  unfold outT
  rw [outB_apply, hd, hm, xT_apply m c _ hn]
  have hs : slabOf ((8 * b.val + 4 + (i.val / 40 + 1) % 4) % 8) = i.val / 40 := by
    rw [hm, slabOf, if_neg (by omega)]; omega
  refine congrArg₂ (· * ·) ?_ (congrArg (1 + Spec.c01 * Ideal.logistic ·) (Finset.sum_congr rfl fun o _ => congrArg₂ (· * ·) ?_ (we_apply m c b o)))
  · refine congrArg _ (congr (congr (congrArg (ValueIdx.ix4 · ch) (Fin.ext hd)) (Fin.ext ?_)) (Fin.ext ?_))
    · show (slabOf ((8 * b.val + 4 + (i.val / 40 + 1) % 4) % 8) * 6400 + (i.val % 40 * 160 + j.val)) / 160 = i.val; rw [hs]; omega
    · show (slabOf ((8 * b.val + 4 + (i.val / 40 + 1) % 4) % 8) * 6400 + (i.val % 40 * 160 + j.val)) % 160 = j.val; rw [hs]; omega
  · exact kapK_congr _ _ fun r k hr => tapB_apply m c b (i.val / 40) _ (by omega) rfl o i rfl j r k hr

end Cert.KernelIdeal.Hand

end
-- ==== Proof.RRead.lean ====
module

public import proofs.«01_k».proof.Proof.Gen.ReferenceIdeal.Read
public import proofs.«01_k».proof.Proof.SpecOut
public import Idealize.ShloMosaic.Lib.Claim
public import Idealize.ShloMosaic.Lib.Pointwise

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic
open Idealize.SL Idealize.SL.RA Idealize.SL.BI Idealize.SL.Sem

variable (x0 : FVec Ideal S8x256x160x160 .f32) (x1 : FVec Ideal S64x256x1x1 .f32) (x2 x3 : FVec Ideal S64 .f32) (x4 : FVec Ideal S16x64x1x1 .f32) (x5 : FVec Ideal S16 .f32) (x6 : FVec Ideal S64x16x1x1 .f32) (x7 : FVec Ideal S64 .f32) (x8 : FVec Ideal S1x128x1x1 .f32)

theorem v3_apply (b g k : Fin 8) (i j : Fin 160) : val_main_v3 (F := Ideal) x0 x1 (ValueIdx.ix5 b g k i j)
    = Spec.raw (fun ch i j => x0 (ValueIdx.ix4 b ch i j)) (fun o ch => x1 (ValueIdx.ix4 o ch 0 0)) (Spec.grp g k) i j := by
  pointwise [val_main_v3, val_main_v2, val_main_v1, val_main_v0]
  rfl
theorem v3_apply' (b : Fin 8) (o : Fin 64) (i j : Fin 160) : val_main_v3 (F := Ideal) x0 x1 (ValueIdx.ix5 b (Spec.gOf o) (Spec.cOf o) i j)
    = Spec.raw (fun ch i j => x0 (ValueIdx.ix4 b ch i j)) (fun o ch => x1 (ValueIdx.ix4 o ch 0 0)) o i j := by
  rw [v3_apply, Spec.grp_of]
theorem n_val : Ideal.ofBits .f32 1212678144#32 = ((204800 : ℝ) : EReal) := by
  simp [Ideal.ofBits, Ideal.ieee, -EReal.coe_mul]; norm_num
theorem hw_val : Ideal.ofBits .f32 1187512320#32 = ((25600 : ℝ) : EReal) := by
  simp [Ideal.ofBits, Ideal.ieee, -EReal.coe_mul]; norm_num
theorem v7_apply (b g : Fin 8) : val_main_v7 (F := Ideal) x0 x1 (ValueIdx.ix5 b g 0 0 0)
    = Spec.meanR (fun ch i j => x0 (ValueIdx.ix4 b ch i j)) (fun o ch => x1 (ValueIdx.ix4 o ch 0 0)) g := by
  pointwise [val_main_v7, val_main_v5, val_main_v6, val_main_v4, val_main_cst_0, val_main_cst]
  unfold Spec.meanR
  simp only [← v3_apply, n_val]
  rfl
theorem c3_eq : val_main_call0_v3 (F := Ideal) x0 x1 = val_main_v7 (F := Ideal) x0 x1 := rfl
theorem v8_apply (b g : Fin 8) : val_main_v8 (F := Ideal) x0 x1 (ValueIdx.ix5 b g 0 0 0)
    = Spec.varR (fun ch i j => x0 (ValueIdx.ix4 b ch i j)) (fun o ch => x1 (ValueIdx.ix4 o ch 0 0)) g := by
  pointwise [val_main_v8, val_main_call0_v12, val_main_call0_v13, val_main_call0_v11, val_main_call0_v8, val_main_call0_v7, val_main_c,
    val_main_call0_cst_1, val_main_call0_cst_3, val_main_call0_v10, val_main_call0_v9, val_main_call0_cst_2, val_main_call0_v6, val_main_call0_v5,
    val_main_call0_v4]
  have hs : FloatOps.sitofp (F := Ideal) FTy.f32 0#32 = (0 : EReal) := by
    show (((0#32).toInt : ℝ) : EReal) = 0
    norm_num
  rw [hs, sub_zero, n_val, if_pos (by exact_mod_cast (by norm_num : (0 : ℝ) < 204800)), c3_eq]
  unfold Spec.varR
  simp only [← v7_apply, ← v3_apply]
  rfl
theorem v22_apply (b : Fin 8) (o : Fin 64) (i j : Fin 160) : val_main_v22 (F := Ideal) x0 x1 x2 x3 (ValueIdx.ix4 b o i j)
    = Spec.yR (fun ch i j => x0 (ValueIdx.ix4 b ch i j)) (fun o ch => x1 (ValueIdx.ix4 o ch 0 0)) (fun o => x2 (ValueIdx.ix1 o)) (fun o => x3 (ValueIdx.ix1 o)) o i j := by
  pointwise [val_main_v22, val_main_v19, val_main_v16, val_main_v15, val_main_v10, val_main_v9, val_main_v18, val_main_v17, val_main_v20,
    val_main_v21, val_main_v14, val_main_v13, val_main_v12, val_main_v11, val_main_cst_1]
  unfold Spec.yR
  rw [← v7_apply, ← v8_apply, ← v3_apply' x0 x1 b o i j]
  rfl
theorem pad_apply (b : Fin 8) (o : Fin 64) (i j : Fin 162) : val_main_v23 (F := Ideal) x0 x1 x2 x3 (ValueIdx.ix4 b o i j)
    = Spec.tap (fun i j => val_main_v22 (F := Ideal) x0 x1 x2 x3 (ValueIdx.ix4 b o i j)) i.val j.val := by
  pointwise [val_main_v23, val_main_call1_v0, val_main_c_2]
  unfold Spec.tap
  split_ifs with h
  · rfl
  · show (((0#32).toInt : ℝ) : EReal) = 0
    norm_num

/-- The image of the taps: the normalized channels of a sample. -/
abbrev yv (b : Fin 8) (o : Fin 64) : Fin 160 → Fin 160 → EReal := fun i j => val_main_v22 (F := Ideal) x0 x1 x2 x3 (ValueIdx.ix4 b o i j)

theorem tap_at (b : Fin 8) (o : Fin 64) (i j : Fin 160) (r k : ℕ) (i' j' : Fin 162) (hi : i'.val = i.val + r) (hj : j'.val = j.val + k) :
    val_main_v23 (F := Ideal) x0 x1 x2 x3 (ValueIdx.ix4 b o i' j') = Spec.taps (yv x0 x1 x2 x3 b o) i j r k := by
  rw [pad_apply, hi, hj]; rfl
theorem tap_w (b : Fin 8) (o : Fin 64) (i j : Fin 160) (w : EReal) (v : ℝ) (hw : w = v) (r k : ℕ) (i' j' : Fin 162) (hi : i'.val = i.val + r) (hj : j'.val = j.val + k) :
    w * val_main_v23 (F := Ideal) x0 x1 x2 x3 (ValueIdx.ix4 b o i' j') = (v : EReal) * Spec.taps (yv x0 x1 x2 x3 b o) i j r k := by
  rw [hw, tap_at x0 x1 x2 x3 b o i j r k i' j' hi hj]
theorem tap_1 (b : Fin 8) (o : Fin 64) (i j : Fin 160) (r k : ℕ) (i' j' : Fin 162) (hi : i'.val = i.val + r) (hj : j'.val = j.val + k) :
    val_main_v23 (F := Ideal) x0 x1 x2 x3 (ValueIdx.ix4 b o i' j') = ((1 : ℝ) : EReal) * Spec.taps (yv x0 x1 x2 x3 b o) i j r k := by
  rw [tap_at x0 x1 x2 x3 b o i j r k i' j' hi hj, EReal.coe_one, one_mul]
theorem sum_nine {a0 a1 a2 a3 a4 a5 a6 a7 a8 b0 b1 b2 b3 b4 b5 b6 b7 b8 : EReal} (h0 : a0 = b0) (h1 : a1 = b1) (h2 : a2 = b2) (h3 : a3 = b3)
    (h4 : a4 = b4) (h5 : a5 = b5) (h6 : a6 = b6) (h7 : a7 = b7) (h8 : a8 = b8) :
    a0 + a1 + a2 + a3 + a4 + a5 + a6 + a7 + a8 = b0 + b1 + b2 + b3 + b4 + b5 + b6 + b7 + b8 := by
  rw [h0, h1, h2, h3, h4, h5, h6, h7, h8]

theorem quarter : Ideal.ofBits .f32 1048576000#32 = ((1 / 4 : ℝ) : EReal) := by
  simp [Ideal.ofBits, Ideal.ieee, -EReal.coe_mul]; norm_num
theorem half : Ideal.ofBits .f32 1056964608#32 = ((1 / 2 : ℝ) : EReal) := by
  simp [Ideal.ofBits, Ideal.ieee, -EReal.coe_mul]; norm_num
theorem mquarter : Ideal.ofBits .f32 3196059648#32 = ((-(1 / 4) : ℝ) : EReal) := by
  simp [Ideal.ofBits, Ideal.ieee, -EReal.coe_mul]; norm_num
theorem mhalf : Ideal.ofBits .f32 3204448256#32 = ((-(1 / 2) : ℝ) : EReal) := by
  simp [Ideal.ofBits, Ideal.ieee, -EReal.coe_mul]; norm_num
theorem nine : Ideal.ofBits .f32 1091567616#32 = ((9 : ℝ) : EReal) := by
  simp [Ideal.ofBits, Ideal.ieee, -EReal.coe_mul]; norm_num
theorem e1_val : Ideal.ofBits .f32 953267991#32 = (Spec.e1 : EReal) := by
  unfold Spec.e1
  simp [Ideal.ofBits, Ideal.ieee, -EReal.coe_mul]; norm_num
theorem one : Ideal.ofBits .f32 1065353216#32 = ((1 : ℝ) : EReal) := by
  simp [Ideal.ofBits, Ideal.ieee, -EReal.coe_mul]; norm_num
theorem mone : Ideal.ofBits .f32 3212836864#32 = ((-1 : ℝ) : EReal) := by
  simp [Ideal.ofBits, Ideal.ieee, -EReal.coe_mul]; norm_num
theorem two : Ideal.ofBits .f32 1073741824#32 = ((2 : ℝ) : EReal) := by
  simp [Ideal.ofBits, Ideal.ieee, -EReal.coe_mul]; norm_num
theorem zero : Ideal.ofBits .f32 0#32 = ((0 : ℝ) : EReal) := by
  simp [Ideal.ofBits, Ideal.ieee, -EReal.coe_mul]
theorem zero' : (0 : EReal) = ((0 : ℝ) : EReal) := rfl

theorem v61_eq : val_main_v61 (F := Ideal) x0 x1 x2 x3 = val_main_v23 (F := Ideal) x0 x1 x2 x3 := rfl
theorem v97_eq : val_main_v97 (F := Ideal) x0 x1 x2 x3 = val_main_v23 (F := Ideal) x0 x1 x2 x3 := rfl
theorem v58_apply (b : Fin 8) (o : Fin 64) (i j : Fin 160) : val_main_v58 (F := Ideal) x0 x1 x2 x3 (ValueIdx.ix4 b o i j)
    = Spec.corr (Spec.taps (yv x0 x1 x2 x3 b o) i j) Spec.wOne := by
  pointwise [val_main_v58, val_main_v57, val_main_v56, val_main_v55, val_main_v54, val_main_v53, val_main_v52, val_main_v51, val_main_v50,
    val_main_v49, val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31, val_main_v30,
    val_main_v29, val_main_v28, val_main_v27, val_main_v26, val_main_v25, val_main_v24, val_main_cst_3, val_main_cst_4, val_main_cst_5,
    val_main_cst_6, val_main_cst_7, val_main_cst_8, val_main_cst_9, val_main_cst_10, val_main_cst_11]
  exact sum_nine
    (tap_1 x0 x1 x2 x3 b o i j 0 0 _ _ rfl rfl) (tap_1 x0 x1 x2 x3 b o i j 0 1 _ _ rfl (Nat.add_comm _ _)) (tap_1 x0 x1 x2 x3 b o i j 0 2 _ _ rfl (Nat.add_comm _ _))
    (tap_1 x0 x1 x2 x3 b o i j 1 0  _ _ (Nat.add_comm _ _) rfl) (tap_1 x0 x1 x2 x3 b o i j 1 1  _ _ (Nat.add_comm _ _) (Nat.add_comm _ _)) (tap_1 x0 x1 x2 x3 b o i j 1 2  _ _ (Nat.add_comm _ _) (Nat.add_comm _ _))
    (tap_1 x0 x1 x2 x3 b o i j 2 0  _ _ (Nat.add_comm _ _) rfl) (tap_1 x0 x1 x2 x3 b o i j 2 1  _ _ (Nat.add_comm _ _) (Nat.add_comm _ _)) (tap_1 x0 x1 x2 x3 b o i j 2 2  _ _ (Nat.add_comm _ _) (Nat.add_comm _ _))
theorem v96_apply (b : Fin 8) (o : Fin 64) (i j : Fin 160) : val_main_v96 (F := Ideal) x0 x1 x2 x3 (ValueIdx.ix4 b o i j)
    = Spec.corr (Spec.taps (yv x0 x1 x2 x3 b o) i j) Spec.wX := by
  pointwise [val_main_v96, val_main_v95, val_main_v94, val_main_v93, val_main_v92, val_main_v91, val_main_v90, val_main_v89, val_main_v88,
    val_main_v87, val_main_v86, val_main_v85, val_main_v84, val_main_v83, val_main_v82, val_main_v81, val_main_v80, val_main_v79, val_main_v78,
    val_main_v77, val_main_v76, val_main_v75, val_main_v74, val_main_v73, val_main_v72, val_main_v71, val_main_v70, val_main_v69, val_main_v68,
    val_main_v67, val_main_v66, val_main_v65, val_main_v64, val_main_v63, val_main_v62, val_main_cst_14, val_main_cst_15, val_main_cst_16,
    val_main_cst_17, val_main_cst_18, val_main_cst_19, val_main_cst_20, val_main_cst_21, val_main_cst_22]
  rw [v61_eq]
  exact sum_nine
    (tap_w x0 x1 x2 x3 b o i j _ _ quarter 0 0 _ _ rfl rfl) (tap_w x0 x1 x2 x3 b o i j _ _ zero' 0 1 _ _ rfl (Nat.add_comm _ _)) (tap_w x0 x1 x2 x3 b o i j _ _ mquarter 0 2 _ _ rfl (Nat.add_comm _ _))
    (tap_w x0 x1 x2 x3 b o i j _ _ half 1 0 _ _ (Nat.add_comm _ _) rfl) (tap_w x0 x1 x2 x3 b o i j _ _ zero' 1 1 _ _ (Nat.add_comm _ _) (Nat.add_comm _ _)) (tap_w x0 x1 x2 x3 b o i j _ _ mhalf 1 2 _ _ (Nat.add_comm _ _) (Nat.add_comm _ _))
    (tap_w x0 x1 x2 x3 b o i j _ _ quarter 2 0 _ _ (Nat.add_comm _ _) rfl) (tap_w x0 x1 x2 x3 b o i j _ _ zero' 2 1 _ _ (Nat.add_comm _ _) (Nat.add_comm _ _)) (tap_w x0 x1 x2 x3 b o i j _ _ mquarter 2 2 _ _ (Nat.add_comm _ _) (Nat.add_comm _ _))
theorem v132_apply (b : Fin 8) (o : Fin 64) (i j : Fin 160) : val_main_v132 (F := Ideal) x0 x1 x2 x3 (ValueIdx.ix4 b o i j)
    = Spec.corr (Spec.taps (yv x0 x1 x2 x3 b o) i j) Spec.wY := by
  pointwise [val_main_v132, val_main_v131, val_main_v130, val_main_v129, val_main_v128, val_main_v127, val_main_v126, val_main_v125, val_main_v124,
    val_main_v123, val_main_v122, val_main_v121, val_main_v120, val_main_v119, val_main_v118, val_main_v117, val_main_v116, val_main_v115,
    val_main_v114, val_main_v113, val_main_v112, val_main_v111, val_main_v110, val_main_v109, val_main_v108, val_main_v107, val_main_v106,
    val_main_v105, val_main_v104, val_main_v103, val_main_v102, val_main_v101, val_main_v100, val_main_v99, val_main_v98, val_main_cst_24,
    val_main_cst_25, val_main_cst_26, val_main_cst_27, val_main_cst_28, val_main_cst_29, val_main_cst_30, val_main_cst_31, val_main_cst_32]
  rw [v97_eq]
  exact sum_nine
    (tap_w x0 x1 x2 x3 b o i j _ _ quarter 0 0 _ _ rfl rfl) (tap_w x0 x1 x2 x3 b o i j _ _ half 0 1 _ _ rfl (Nat.add_comm _ _)) (tap_w x0 x1 x2 x3 b o i j _ _ quarter 0 2 _ _ rfl (Nat.add_comm _ _))
    (tap_w x0 x1 x2 x3 b o i j _ _ zero' 1 0 _ _ (Nat.add_comm _ _) rfl) (tap_w x0 x1 x2 x3 b o i j _ _ zero' 1 1 _ _ (Nat.add_comm _ _) (Nat.add_comm _ _)) (tap_w x0 x1 x2 x3 b o i j _ _ zero' 1 2 _ _ (Nat.add_comm _ _) (Nat.add_comm _ _))
    (tap_w x0 x1 x2 x3 b o i j _ _ mquarter 2 0 _ _ (Nat.add_comm _ _) rfl) (tap_w x0 x1 x2 x3 b o i j _ _ mhalf 2 1 _ _ (Nat.add_comm _ _) (Nat.add_comm _ _)) (tap_w x0 x1 x2 x3 b o i j _ _ mquarter 2 2 _ _ (Nat.add_comm _ _) (Nat.add_comm _ _))
theorem v144_apply (b : Fin 8) (o : Fin 64) (i j : Fin 160) : val_main_v144 (F := Ideal) x0 x1 x2 x3 (ValueIdx.ix4 b o i j)
    = Spec.kapR (Spec.taps (yv x0 x1 x2 x3 b o) i j) := by
  pointwise [val_main_v144, val_main_call5_v4, val_main_call5_v3, val_main_cst_38, val_main_call5_v2, val_main_call5_v1, val_main_call5_v0,
    val_main_cst_37, val_main_v143, val_main_v142, val_main_cst_36, val_main_v141, val_main_call4_v4, val_main_call4_v3, val_main_cst_35,
    val_main_call4_v2, val_main_call4_v1, val_main_call4_v0, val_main_cst_34, val_main_v140, val_main_v139, val_main_v138, val_main_cst_33,
    val_main_v137, val_main_v136, val_main_v135, val_main_v134, val_main_v133, val_main_v60, val_main_v59, val_main_cst_12]
  unfold Spec.kapR
  rw [← v58_apply, ← v96_apply, ← v132_apply, ← nine, ← e1_val, ← two, ← mone, ← zero]
  have hc : val_main_v22 (F := Ideal) x0 x1 x2 x3 (ValueIdx.ix4 b o i j) = Spec.taps (yv x0 x1 x2 x3 b o) i j 1 1 := by
    unfold Spec.taps Spec.tap
    rw [dif_pos ⟨⟨by omega, by omega⟩, by omega, by omega⟩]
    rfl
  rw [hc]
  refine congrArg₂ min one (congrArg (max _) (congrArg₂ (· - ·) rfl rfl))
theorem v147_apply (b : Fin 8) (o : Fin 64) : val_main_v147 (F := Ideal) x0 x1 x2 x3 (ValueIdx.ix2 b o)
    = Ideal.div (∑ i, ∑ j, val_main_v22 (F := Ideal) x0 x1 x2 x3 (ValueIdx.ix4 b o i j)) ((25600 : ℝ) : EReal) := by
  pointwise [val_main_v147, val_main_v146, val_main_v145, val_main_cst_39, val_main_cst_40]
  rw [hw_val]
  rfl
theorem v166_apply (b : Fin 8) (o : Fin 64) : val_main_v166 (F := Ideal) x0 x1 x2 x3 x4 x5 x6 x7 (ValueIdx.ix2 b o)
    = Spec.gate (fun k c => x4 (ValueIdx.ix4 k c 0 0)) (fun k => x5 (ValueIdx.ix1 k)) (fun o k => x6 (ValueIdx.ix4 o k 0 0)) (fun o => x7 (ValueIdx.ix1 o))
      (fun o => val_main_v147 (F := Ideal) x0 x1 x2 x3 (ValueIdx.ix2 b o)) o := by
  pointwise [val_main_v166, val_main_v165, val_main_v164, val_main_v163, val_main_v162, val_main_v161, val_main_v160, val_main_v159, val_main_v158,
    val_main_v157, val_main_v156, val_main_v155, val_main_v154, val_main_v153, val_main_v152, val_main_v151, val_main_v150, val_main_v149,
    val_main_v148, val_main_call6_v0, val_main_call6_cst, val_main_cst_41, val_main_cst_42]
  unfold Spec.gate
  refine congrArg Ideal.logistic (congrArg (· + _) (Finset.sum_congr rfl fun k _ => ?_))
  rw [mul_comm]
  refine congrArg (_ * ·) (congrArg (max · 0) (congrArg (· + _) (Finset.sum_congr rfl fun c _ => ?_)))
  exact mul_comm _ _
theorem v188_apply (b : Fin 8) (ch : Fin 256) (i j : Fin 160) : val_main_v188 (F := Ideal) x0 x1 x2 x3 x4 x5 x6 x7 x8 (ValueIdx.ix4 b ch i j)
    = x0 (ValueIdx.ix4 b ch i j) * (1 + Spec.c01 * Ideal.logistic (
      ∑ o : Fin 64, val_main_v144 (F := Ideal) x0 x1 x2 x3 (ValueIdx.ix4 b o i j) * x8 (ValueIdx.ix4 0 ⟨o.val, by omega⟩ 0 0)
      + ∑ o : Fin 64, (val_main_v166 (F := Ideal) x0 x1 x2 x3 x4 x5 x6 x7 (ValueIdx.ix2 b o) * val_main_v144 (F := Ideal) x0 x1 x2 x3 (ValueIdx.ix4 b o i j)) * x8 (ValueIdx.ix4 0 ⟨64 + o.val, by omega⟩ 0 0))) := by
  pointwise [val_main_v188, val_main_v187, val_main_v186, val_main_v185, val_main_v184, val_main_v183, val_main_v182, val_main_v181, val_main_v180,
    val_main_v179, val_main_v178, val_main_v177, val_main_v176, val_main_v175, val_main_v174, val_main_v173, val_main_v172, val_main_v171,
    val_main_v170, val_main_v169, val_main_v168, val_main_v167, val_main_cst_43, val_main_cst_44, val_main_cst_45, val_main_cst_46]
  rfl

/-- The reference's result at an index. -/
theorem out_apply (b : Fin 8) (ch : Fin 256) (i j : Fin 160) : val_main_v188 (F := Ideal) x0 x1 x2 x3 x4 x5 x6 x7 x8 (ValueIdx.ix4 b ch i j)
    = Spec.outR (fun ch i j => x0 (ValueIdx.ix4 b ch i j)) (fun o ch => x1 (ValueIdx.ix4 o ch 0 0)) (fun o => x2 (ValueIdx.ix1 o)) (fun o => x3 (ValueIdx.ix1 o))
      (fun k c => x4 (ValueIdx.ix4 k c 0 0)) (fun k => x5 (ValueIdx.ix1 k)) (fun o k => x6 (ValueIdx.ix4 o k 0 0)) (fun o => x7 (ValueIdx.ix1 o))
      (fun o => x8 (ValueIdx.ix4 0 ⟨o.val, by omega⟩ 0 0)) (fun o => x8 (ValueIdx.ix4 0 ⟨64 + o.val, by omega⟩ 0 0)) ch i j := by
  have hy : ∀ o, yv x0 x1 x2 x3 b o = Spec.yR (fun ch i j => x0 (ValueIdx.ix4 b ch i j)) (fun o ch => x1 (ValueIdx.ix4 o ch 0 0))
      (fun o => x2 (ValueIdx.ix1 o)) (fun o => x3 (ValueIdx.ix1 o)) o := fun o => funext fun i => funext fun j => v22_apply x0 x1 x2 x3 b o i j
  rw [v188_apply]
  simp only [v166_apply, v147_apply, v144_apply, hy, v22_apply]
  rfl

end Cert.ReferenceIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.KIPre
public import proofs.«01_k».proof.Proof.KFrame
public import proofs.«01_k».proof.Proof.KIFrame
public import proofs.«01_k».proof.Proof.KIOut
public import proofs.«01_k».proof.Proof.KIVal
public import proofs.«01_k».proof.Proof.RRead
public import Idealize.ShloMosaic.Lib.Claim
public import Idealize.ShloMosaic.Adequacy
public import Idealize.ShloMosaic.Init

@[expose] public section

noncomputable section

namespace Cert.Proof

open Idealize.ShloMosaic Idealize.SL.Sem

/-- The kernel's frame. -/
theorem frame_k : Cert.quiescent_Kernel := fun m ρ _ => Cert.Kernel.Hand.frame_main m ρ

/-- The idealized kernel's frame. -/
theorem frame_ki : Cert.quiescent_KernelIdeal := fun m ρ _ => Cert.KernelIdeal.Hand.frame_main m ρ

/-- The reference's frame: its run, and it declares no semaphore. -/
theorem frame_r : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ledger: each named constant is the word it was named from, rounded. -/
theorem ledger : Cert.preserves_Kernel_KernelIdeal :=
  ⟨IdealRules.named_const.statement Cert.KernelIdeal.κ "eps4" .bf16 0x39D2#16 ((13743895 / 34359738368 : ℝ) : EReal) rfl,
   IdealRules.named_const.statement Cert.KernelIdeal.κ "four_ninths" .bf16 0x3EE4#16 ((4 / 9 : ℝ) : EReal) rfl⟩

/-- The kernel's result is the reference's, of equal arguments whose read elements are finite. -/
theorem value (m : (ℓ : Loc Cert.KernelIdeal.nD Cert.KernelIdeal.τ Cert.KernelIdeal.sig) → Buf (Elt Ideal) ℓ) (h : Cert.Pre_KernelIdeal_inputs_finite m)
    (c : Dev Cert.KernelIdeal.nD) (i : Cert.KernelIdeal.S8x256x160x160.Idx) :
    Cert.ReferenceIdeal.Read.val_main_v188 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) i
      = Cert.KernelIdeal.Hand.outG (F := Ideal) m c i := by
  obtain ⟨h0, h1, h2, h8⟩ := Cert.Pre_inputs_finite.Hand.pre_real _ _ _ _ _ _ _ _ _ (h c)
  obtain ⟨b, ch, p, q, rfl⟩ : ∃ b ch p q, i = ValueIdx.ix4 b ch p q := ⟨i 0, i 1, i 2, i 3, funext fun a => by fin_cases a <;> rfl⟩
  refine (Cert.ReferenceIdeal.Hand.out_apply _ _ _ _ _ _ _ _ _ b ch p q).trans ?_
  refine Eq.trans ?_ (Cert.KernelIdeal.Hand.outG_apply m c b ch p q).symm
  exact (Cert.Spec.out_eq _ _ _ _ _ _ _ _ _ _ (fun _ _ _ => h0 _) (fun _ _ => h1 _) (fun _ => h2 _) (fun _ => h8 _) (fun _ => h8 _) ch p q).symm

/-- The idealized kernel computes what the reference computes. -/
theorem algebraic : Cert.algebraic_KernelIdeal_ReferenceIdeal_pre_inputs_finite := by
  intro m g m' g' hpre hagree
  refine ⟨fun c => Cert.KernelIdeal.Hand.outG (F := Ideal) m c, ?_, ?_⟩
  · exact θ_run_mono (θ_run_and (Cert.KernelIdeal.Hand.run_out (F := Ideal) m g) (Cert.KernelIdeal.Hand.frame_main (F := Ideal) m g))
      fun r h c => ⟨h.1 c, h.2.1 c⟩
  · refine θ_run_mono (Cert.ReferenceIdeal.Value.run (F := Ideal) m' g') fun r h c => ⟨(h c).1.trans ?_, (h c).2⟩
    refine (Cert.ReferenceIdeal.Read.val_main_v188_eq (F := Ideal) _).trans ?_
    obtain ⟨a0, a1, a2, a3, a4, a5, a6, a7, a8⟩ := hagree c
    refine Eq.trans ?_ (funext fun i => value m hpre c i)
    rw [← a0, ← a1, ← a2, ← a3, ← a4, ← a5, ← a6, ← a7, ← a8]

theorem claim : Cert.Claim :=
  ⟨Cert.Kernel.Gen.facts, Cert.KernelIdeal.Gen.facts, Cert.ReferenceIdeal.Gen.facts, Cert.Pre_inputs_finite.Hand.facts,
   frame_k, frame_ki, fun m ρ _ => frame_ki m ρ trivial, frame_r, fun m ρ _ => frame_r m ρ trivial, ledger, algebraic⟩

end Cert.Proof

end
